-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ExactIdeal (m : (ℓ : Loc Cert.ExactIdeal.nD Cert.ExactIdeal.τ Cert.ExactIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
      ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4))
      ∧ r.2.sem = fun _ => 0)

def preserves_Kernel_KernelIdeal : Prop :=
  IdealRules.named_const.Statement Cert.KernelIdeal.κ "sqrt_half_log2e" .f32 0x3F596D27#32 (((Real.sqrt (2 * (Real.log 2)))⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_within_pre_in_range [hKernelIdeal : Cert.KernelIdeal.Facts] [hPre_in_range : Cert.Pre_in_range.Facts] [hPost_within : Cert.Post_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v12))) = (fun _ => 1#1))

def Claim : Prop :=
  ∃ (hKernel : Cert.Kernel.Facts) (hKernelIdeal : Cert.KernelIdeal.Facts) (hReferenceIdeal : Cert.ReferenceIdeal.Facts) (hExactIdeal : Cert.ExactIdeal.Facts) (hPre_in_range : Cert.Pre_in_range.Facts) (hPost_within : Cert.Post_within.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_ExactIdeal (hExactIdeal := hExactIdeal)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_within_pre_in_range (hKernelIdeal := hKernelIdeal) (hPre_in_range := hPre_in_range) (hPost_within := hPost_within)
-- ==== Post_within.lean ====
abbrev S4096x2 : Shape := ⟨2, ![4096, 2]⟩
abbrev S4096x3 : Shape := ⟨2, ![4096, 3]⟩
abbrev S4096x103 : Shape := ⟨2, ![4096, 103]⟩
abbrev S8192x2 : Shape := ⟨2, ![8192, 2]⟩
abbrev S8192x1 : Shape := ⟨2, ![8192, 1]⟩
abbrev S64x64x103 : Shape := ⟨3, ![64, 64, 103]⟩
abbrev S2 : Shape := ⟨1, ![2]⟩
abbrev S_ : Shape := ⟨0, ![]⟩
abbrev S1x2 : Shape := ⟨2, ![1, 2]⟩
abbrev S4096x1 : Shape := ⟨2, ![4096, 1]⟩
abbrev S4096 : Shape := ⟨1, ![4096]⟩
abbrev S4096x2x2 : Shape := ⟨3, ![4096, 2, 2]⟩
abbrev S64 : Shape := ⟨1, ![64]⟩
abbrev S64x64 : Shape := ⟨2, ![64, 64]⟩
abbrev S64x64x1 : Shape := ⟨3, ![64, 64, 1]⟩
abbrev S1x1x4096 : Shape := ⟨3, ![1, 1, 4096]⟩
abbrev S64x64x4096 : Shape := ⟨3, ![64, 64, 4096]⟩
abbrev S64x64x4096x1 : Shape := ⟨4, ![64, 64, 4096, 1]⟩
abbrev S4096x2x1 : Shape := ⟨3, ![4096, 2, 1]⟩
abbrev S1x1x4096x2 : Shape := ⟨4, ![1, 1, 4096, 2]⟩
abbrev S64x64x4096x2 : Shape := ⟨4, ![64, 64, 4096, 2]⟩
abbrev S103 : Shape := ⟨1, ![103]⟩
abbrev S1x1x103 : Shape := ⟨3, ![1, 1, 103]⟩

class Facts : Prop where
  bcast_S_S4096x2 : S_.BroadcastsInDim S4096x2 (![] : Fin 0 → Fin S4096x2.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  slices_S4096x3_S4096x1_0_0 : S4096x3.Slices ![0, 0] S4096x1
  shapeCasts_S4096x1_S4096 : S4096x1.ShapeCasts S4096
  bcast_S_S4096 : S_.BroadcastsInDim S4096 (![] : Fin 0 → Fin S4096.rank)
  slices_S4096x3_S4096x1_0_1 : S4096x3.Slices ![0, 1] S4096x1
  slices_S4096x3_S4096x1_0_2 : S4096x3.Slices ![0, 2] S4096x1
  shapeCasts_S8192x2_S4096x2x2 : S8192x2.ShapeCasts S4096x2x2
  bcast_S_S8192x1 : S_.BroadcastsInDim S8192x1 (![] : Fin 0 → Fin S8192x1.rank)
  shapeCasts_S8192x1_S4096x2 : S8192x1.ShapeCasts S4096x2
  bcast_S_S4096x103 : S_.BroadcastsInDim S4096x103 (![] : Fin 0 → Fin S4096x103.rank)
  bcast_S_S64 : S_.BroadcastsInDim S64 (![] : Fin 0 → Fin S64.rank)
  bcast_S64_S64x64_0 : S64.BroadcastsInDim S64x64 (![0] : Fin 1 → Fin S64x64.rank)
  bcast_S64_S64x64_1 : S64.BroadcastsInDim S64x64 (![1] : Fin 1 → Fin S64x64.rank)
  bcast_S64x64_S64x64x1_0_1 : S64x64.BroadcastsInDim S64x64x1 (![0, 1] : Fin 2 → Fin S64x64x1.rank)
  slices_S4096x2_S4096x1_0_0 : S4096x2.Slices ![0, 0] S4096x1
  bcast_S4096_S1x1x4096_2 : S4096.BroadcastsInDim S1x1x4096 (![2] : Fin 1 → Fin S1x1x4096.rank)
  bcast_S64x64x1_S64x64x4096_0_1_2 : S64x64x1.BroadcastsInDim S64x64x4096 (![0, 1, 2] : Fin 3 → Fin S64x64x4096.rank)
  bcast_S1x1x4096_S64x64x4096_0_1_2 : S1x1x4096.BroadcastsInDim S64x64x4096 (![0, 1, 2] : Fin 3 → Fin S64x64x4096.rank)
  slices_S4096x2_S4096x1_0_1 : S4096x2.Slices ![0, 1] S4096x1
  bcast_S_S64x64x4096 : S_.BroadcastsInDim S64x64x4096 (![] : Fin 0 → Fin S64x64x4096.rank)
  bcast_S64x64x4096_S64x64x4096x1_0_1_2 : S64x64x4096.BroadcastsInDim S64x64x4096x1 (![0, 1, 2] : Fin 3 → Fin S64x64x4096x1.rank)
  slices_S4096x2x2_S4096x2x1_0_0_0 : S4096x2x2.Slices ![0, 0, 0] S4096x2x1
  shapeCasts_S4096x2x1_S4096x2 : S4096x2x1.ShapeCasts S4096x2
  bcast_S4096x2_S1x1x4096x2_2_3 : S4096x2.BroadcastsInDim S1x1x4096x2 (![2, 3] : Fin 2 → Fin S1x1x4096x2.rank)
  bcast_S64x64x4096x1_S64x64x4096x2_0_1_2_3 : S64x64x4096x1.BroadcastsInDim S64x64x4096x2 (![0, 1, 2, 3] : Fin 4 → Fin S64x64x4096x2.rank)
  bcast_S1x1x4096x2_S64x64x4096x2_0_1_2_3 : S1x1x4096x2.BroadcastsInDim S64x64x4096x2 (![0, 1, 2, 3] : Fin 4 → Fin S64x64x4096x2.rank)
  slices_S4096x2x2_S4096x2x1_0_0_1 : S4096x2x2.Slices ![0, 0, 1] S4096x2x1
  bcast_S_S64x64x4096x2 : S_.BroadcastsInDim S64x64x4096x2 (![] : Fin 0 → Fin S64x64x4096x2.rank)
  reducesTo_S64x64x4096x2_S64x64x4096_d3 : S64x64x4096x2.ReducesTo [3] S64x64x4096
  h_S_ : 0 < S_.numel
  bcast_S_S103 : S_.BroadcastsInDim S103 (![] : Fin 0 → Fin S103.rank)
  bcast_S103_S1x1x103_2 : S103.BroadcastsInDim S1x1x103 (![2] : Fin 1 → Fin S1x1x103.rank)
  bcast_S1x1x103_S64x64x103_0_1_2 : S1x1x103.BroadcastsInDim S64x64x103 (![0, 1, 2] : Fin 3 → Fin S64x64x103.rank)
  bcast_S_S64x64x103 : S_.BroadcastsInDim S64x64x103 (![] : Fin 0 → Fin S64x64x103.rank)
  dot_S64x64x4096_S4096x103_S64x64x103_2_0_01_1_n_n_wf : DotDims.WF S64x64x4096 S4096x103 S64x64x103 [2] [0] [0, 1] [1] [] []

variable [Facts]

def dot_S64x64x4096_S4096x103_S64x64x103_2_0_01_1_n_n : DotDims S64x64x4096 S4096x103 S64x64x103 where
  lhsContracting := [2]
  rhsContracting := [0]
  lhsNonContracting := [0, 1]
  rhsNonContracting := [1]
  lhsBatch := []
  rhsBatch := []
  wf := dot_S64x64x4096_S4096x103_S64x64x103_2_0_01_1_n_n_wf
def fn_part6 {F : FTy → Type} [FloatOps F] (main_arg5 : FVec F S64x64x103 .f32) (main_v42 : FVec F S4096x2 .f32) (main_v49 : FVec F S4096x103 .f32) (main_v93 : FVec F S64x64x4096 .f32) (main_v123 : FVec F S64x64x103 .f32) (main_v124 : FVec F S64x64x4096x2 .f32) : IVec S64x64x103 1 :=
  let main_v125 : FVec F S1x1x4096x2 .f32 := broadcastInDim S1x1x4096x2 ![2, 3] bcast_S4096x2_S1x1x4096x2_2_3 main_v42
  let main_v126 : FVec F S64x64x4096x2 .f32 := broadcastInDim S64x64x4096x2 ![0, 1, 2, 3] bcast_S1x1x4096x2_S64x64x4096x2_0_1_2_3 main_v125
  let main_v127 : FVec F S64x64x4096x2 .f32 := mulf main_v126 main_v124
  let main_cst_18 : FVec F S_ .f32 := constant S_ .f32 0x00000000#32
  let main_v128 : FVec F S64x64x4096 .f32 := (fun x v => Host.reduceAdd x v reducesTo_S64x64x4096x2_S64x64x4096_d3 h_S_) main_v127 main_cst_18
  let main_v129 : FVec F S64x64x4096 .f32 := mulf main_v93 main_v128
  let main_v130 : FVec F S64x64x103 .f32 := (fun l r => Host.dotGeneral dot_S64x64x4096_S4096x103_S64x64x103_2_0_01_1_n_n none l r) main_v129 main_v49
  let main_cst_19 : FVec F S_ .f32 := constant S_ .f32 0x00000000#32
  let main_v131 : FVec F S103 .f32 := broadcastInDim S103 ![] bcast_S_S103 main_cst_19
  let main_v132 : FVec F S1x1x103 .f32 := broadcastInDim S1x1x103 ![2] bcast_S103_S1x1x103_2 main_v131
  let main_v133 : FVec F S64x64x103 .f32 := broadcastInDim S64x64x103 ![0, 1, 2] bcast_S1x1x103_S64x64x103_0_1_2 main_v132
  let main_v134 : FVec F S64x64x103 .f32 := addf main_v130 main_v133
  let main_v135 : FVec F S64x64x103 .f32 := subf main_arg5 main_v123
  let main_v136 : FVec F S64x64x103 .f32 := Host.absf main_v135
  let main_cst_20 : FVec F S_ .f32 := constant S_ .f32 0x3851B717#32
  let main_v137 : FVec F S64x64x103 .f32 := broadcastInDim S64x64x103 ![] bcast_S_S64x64x103 main_cst_20
  let main_v138 : FVec F S64x64x103 .f32 := mulf main_v137 main_v134
  let main_v139 : IVec S64x64x103 1 := cmpf .ole main_v136 main_v138
  main_v139

def fn_part5 {F : FTy → Type} [FloatOps F] (main_arg5 : FVec F S64x64x103 .f32) (main_v42 : FVec F S4096x2 .f32) (main_v49 : FVec F S4096x103 .f32) (main_v93 : FVec F S64x64x4096 .f32) (main_v100 : FVec F S64x64x4096x2 .f32) (main_v104 : FVec F S1x1x4096x2 .f32) (main_v105 : FVec F S64x64x4096x2 .f32) : IVec S64x64x103 1 :=
  let main_v106 : FVec F S64x64x4096x2 .f32 := broadcastInDim S64x64x4096x2 ![0, 1, 2, 3] bcast_S1x1x4096x2_S64x64x4096x2_0_1_2_3 main_v104
  let main_v107 : FVec F S64x64x4096x2 .f32 := mulf main_v105 main_v106
  let main_v108 : FVec F S64x64x4096x2 .f32 := addf main_v100 main_v107
  let main_cst_13 : FVec F S_ .f32 := constant S_ .f32 0xBF800000#32
  let main_v109 : FVec F S_ .f32 := Host.acos main_cst_13
  let main_cst_14 : FVec F S_ .f32 := constant S_ .f32 0x40000000#32
  let main_v110 : FVec F S_ .f32 := mulf main_cst_14 main_v109
  let main_v111 : FVec F S64x64x4096x2 .f32 := broadcastInDim S64x64x4096x2 ![] bcast_S_S64x64x4096x2 main_v110
  let main_v112 : FVec F S64x64x4096x2 .f32 := mulf main_v111 main_v108
  let main_v113 : FVec F S64x64x4096x2 .f32 := Host.cos main_v112
  let main_v114 : FVec F S1x1x4096x2 .f32 := broadcastInDim S1x1x4096x2 ![2, 3] bcast_S4096x2_S1x1x4096x2_2_3 main_v42
  let main_v115 : FVec F S64x64x4096x2 .f32 := broadcastInDim S64x64x4096x2 ![0, 1, 2, 3] bcast_S1x1x4096x2_S64x64x4096x2_0_1_2_3 main_v114
  let main_v116 : FVec F S64x64x4096x2 .f32 := mulf main_v115 main_v113
  let main_cst_15 : FVec F S_ .f32 := constant S_ .f32 0x00000000#32
  let main_v117 : FVec F S64x64x4096 .f32 := (fun x v => Host.reduceAdd x v reducesTo_S64x64x4096x2_S64x64x4096_d3 h_S_) main_v116 main_cst_15
  let main_v118 : FVec F S64x64x4096 .f32 := mulf main_v93 main_v117
  let main_v119 : FVec F S64x64x103 .f32 := (fun l r => Host.dotGeneral dot_S64x64x4096_S4096x103_S64x64x103_2_0_01_1_n_n none l r) main_v118 main_v49
  let main_cst_16 : FVec F S_ .f32 := constant S_ .f32 0x00000000#32
  let main_v120 : FVec F S103 .f32 := broadcastInDim S103 ![] bcast_S_S103 main_cst_16
  let main_v121 : FVec F S1x1x103 .f32 := broadcastInDim S1x1x103 ![2] bcast_S103_S1x1x103_2 main_v120
  let main_v122 : FVec F S64x64x103 .f32 := broadcastInDim S64x64x103 ![0, 1, 2] bcast_S1x1x103_S64x64x103_0_1_2 main_v121
  let main_v123 : FVec F S64x64x103 .f32 := addf main_v119 main_v122
  let main_cst_17 : FVec F S_ .f32 := constant S_ .f32 0x3F800000#32
  let main_v124 : FVec F S64x64x4096x2 .f32 := broadcastInDim S64x64x4096x2 ![] bcast_S_S64x64x4096x2 main_cst_17
  fn_part6 (F := F) main_arg5 main_v42 main_v49 main_v93 main_v123 main_v124

def fn_part4 {F : FTy → Type} [FloatOps F] (main_arg5 : FVec F S64x64x103 .f32) (main_v32 : FVec F S4096 .f32) (main_v35 : FVec F S4096x2x2 .f32) (main_v42 : FVec F S4096x2 .f32) (main_v49 : FVec F S4096x103 .f32) (main_v66 : FVec F S64x64x4096 .f32) (main_v73 : FVec F S64x64x4096 .f32) (main_v82 : FVec F S64x64x4096 .f32) (main_cst_11 : FVec F S_ .f32) : IVec S64x64x103 1 :=
  let main_v83 : FVec F S64x64x4096 .f32 := broadcastInDim S64x64x4096 ![] bcast_S_S64x64x4096 main_cst_11
  let main_v84 : FVec F S64x64x4096 .f32 := mulf main_v83 main_v82
  let main_v85 : FVec F S1x1x4096 .f32 := broadcastInDim S1x1x4096 ![2] bcast_S4096_S1x1x4096_2 main_v32
  let main_v86 : FVec F S64x64x4096 .f32 := broadcastInDim S64x64x4096 ![0, 1, 2] bcast_S1x1x4096_S64x64x4096_0_1_2 main_v85
  let main_v87 : FVec F S64x64x4096 .f32 := mulf main_v86 main_v66
  let main_v88 : FVec F S64x64x4096 .f32 := mulf main_v87 main_v73
  let main_v89 : FVec F S64x64x4096 .f32 := addf main_v84 main_v88
  let main_cst_12 : FVec F S_ .f32 := constant S_ .f32 0x00000000#32
  let main_v90 : FVec F S64x64x4096 .f32 := broadcastInDim S64x64x4096 ![] bcast_S_S64x64x4096 main_cst_12
  let main_v91 : FVec F S64x64x4096 .f32 := maximumf main_v89 main_v90
  let main_v92 : FVec F S64x64x4096 .f32 := Host.negf main_v91
  let main_v93 : FVec F S64x64x4096 .f32 := Host.exp main_v92
  let main_v94 : FVec F S64x64x4096x1 .f32 := broadcastInDim S64x64x4096x1 ![0, 1, 2] bcast_S64x64x4096_S64x64x4096x1_0_1_2 main_v66
  let main_v95 : FVec F S4096x2x1 .f32 := (extractStridedSlice S4096x2x1 ![0, 0, 0] · slices_S4096x2x2_S4096x2x1_0_0_0) main_v35
  let main_v96 : FVec F S4096x2 .f32 := shapeCast S4096x2 main_v95 shapeCasts_S4096x2x1_S4096x2
  let main_v97 : FVec F S1x1x4096x2 .f32 := broadcastInDim S1x1x4096x2 ![2, 3] bcast_S4096x2_S1x1x4096x2_2_3 main_v96
  let main_v98 : FVec F S64x64x4096x2 .f32 := broadcastInDim S64x64x4096x2 ![0, 1, 2, 3] bcast_S64x64x4096x1_S64x64x4096x2_0_1_2_3 main_v94
  let main_v99 : FVec F S64x64x4096x2 .f32 := broadcastInDim S64x64x4096x2 ![0, 1, 2, 3] bcast_S1x1x4096x2_S64x64x4096x2_0_1_2_3 main_v97
  let main_v100 : FVec F S64x64x4096x2 .f32 := mulf main_v98 main_v99
  let main_v101 : FVec F S64x64x4096x1 .f32 := broadcastInDim S64x64x4096x1 ![0, 1, 2] bcast_S64x64x4096_S64x64x4096x1_0_1_2 main_v73
  let main_v102 : FVec F S4096x2x1 .f32 := (extractStridedSlice S4096x2x1 ![0, 0, 1] · slices_S4096x2x2_S4096x2x1_0_0_1) main_v35
  let main_v103 : FVec F S4096x2 .f32 := shapeCast S4096x2 main_v102 shapeCasts_S4096x2x1_S4096x2
  let main_v104 : FVec F S1x1x4096x2 .f32 := broadcastInDim S1x1x4096x2 ![2, 3] bcast_S4096x2_S1x1x4096x2_2_3 main_v103
  let main_v105 : FVec F S64x64x4096x2 .f32 := broadcastInDim S64x64x4096x2 ![0, 1, 2, 3] bcast_S64x64x4096x1_S64x64x4096x2_0_1_2_3 main_v101
  fn_part5 (F := F) main_arg5 main_v42 main_v49 main_v93 main_v100 main_v104 main_v105

def fn_part3 {F : FTy → Type} [FloatOps F] (main_arg5 : FVec F S64x64x103 .f32) (main_v7 : FVec F S4096x2 .f32) (main_v30 : FVec F S4096 .f32) (main_v32 : FVec F S4096 .f32) (main_v33 : FVec F S4096 .f32) (main_v35 : FVec F S4096x2x2 .f32) (main_v42 : FVec F S4096x2 .f32) (main_v49 : FVec F S4096x103 .f32) (main_v58 : FVec F S64x64 .f32) (main_v59 : FVec F S64x64 .f32) : IVec S64x64x103 1 :=
  let main_v60 : FVec F S64x64x1 .f32 := broadcastInDim S64x64x1 ![0, 1] bcast_S64x64_S64x64x1_0_1 main_v59
  let main_v61 : FVec F S4096x1 .f32 := (extractStridedSlice S4096x1 ![0, 0] · slices_S4096x2_S4096x1_0_0) main_v7
  let main_v62 : FVec F S4096 .f32 := shapeCast S4096 main_v61 shapeCasts_S4096x1_S4096
  let main_v63 : FVec F S1x1x4096 .f32 := broadcastInDim S1x1x4096 ![2] bcast_S4096_S1x1x4096_2 main_v62
  let main_v64 : FVec F S64x64x4096 .f32 := broadcastInDim S64x64x4096 ![0, 1, 2] bcast_S64x64x1_S64x64x4096_0_1_2 main_v60
  let main_v65 : FVec F S64x64x4096 .f32 := broadcastInDim S64x64x4096 ![0, 1, 2] bcast_S1x1x4096_S64x64x4096_0_1_2 main_v63
  let main_v66 : FVec F S64x64x4096 .f32 := subf main_v64 main_v65
  let main_v67 : FVec F S64x64x1 .f32 := broadcastInDim S64x64x1 ![0, 1] bcast_S64x64_S64x64x1_0_1 main_v58
  let main_v68 : FVec F S4096x1 .f32 := (extractStridedSlice S4096x1 ![0, 1] · slices_S4096x2_S4096x1_0_1) main_v7
  let main_v69 : FVec F S4096 .f32 := shapeCast S4096 main_v68 shapeCasts_S4096x1_S4096
  let main_v70 : FVec F S1x1x4096 .f32 := broadcastInDim S1x1x4096 ![2] bcast_S4096_S1x1x4096_2 main_v69
  let main_v71 : FVec F S64x64x4096 .f32 := broadcastInDim S64x64x4096 ![0, 1, 2] bcast_S64x64x1_S64x64x4096_0_1_2 main_v67
  let main_v72 : FVec F S64x64x4096 .f32 := broadcastInDim S64x64x4096 ![0, 1, 2] bcast_S1x1x4096_S64x64x4096_0_1_2 main_v70
  let main_v73 : FVec F S64x64x4096 .f32 := subf main_v71 main_v72
  let main_v74 : FVec F S1x1x4096 .f32 := broadcastInDim S1x1x4096 ![2] bcast_S4096_S1x1x4096_2 main_v30
  let main_v75 : FVec F S64x64x4096 .f32 := broadcastInDim S64x64x4096 ![0, 1, 2] bcast_S1x1x4096_S64x64x4096_0_1_2 main_v74
  let main_v76 : FVec F S64x64x4096 .f32 := mulf main_v75 main_v66
  let main_v77 : FVec F S64x64x4096 .f32 := mulf main_v76 main_v66
  let main_v78 : FVec F S1x1x4096 .f32 := broadcastInDim S1x1x4096 ![2] bcast_S4096_S1x1x4096_2 main_v33
  let main_v79 : FVec F S64x64x4096 .f32 := broadcastInDim S64x64x4096 ![0, 1, 2] bcast_S1x1x4096_S64x64x4096_0_1_2 main_v78
  let main_v80 : FVec F S64x64x4096 .f32 := mulf main_v79 main_v73
  let main_v81 : FVec F S64x64x4096 .f32 := mulf main_v80 main_v73
  let main_v82 : FVec F S64x64x4096 .f32 := addf main_v77 main_v81
  let main_cst_11 : FVec F S_ .f32 := constant S_ .f32 0x3F000000#32
  fn_part4 (F := F) main_arg5 main_v32 main_v35 main_v42 main_v49 main_v66 main_v73 main_v82 main_cst_11

def fn_part2 {F : FTy → Type} [FloatOps F] (main_arg2 : FVec F S4096x103 .f32) (main_arg5 : FVec F S64x64x103 .f32) (main_v7 : FVec F S4096x2 .f32) (main_v30 : FVec F S4096 .f32) (main_v32 : FVec F S4096 .f32) (main_v33 : FVec F S4096 .f32) (main_v35 : FVec F S4096x2x2 .f32) (main_v39 : FVec F S8192x1 .f32) : IVec S64x64x103 1 :=
  let main_cst_7 : FVec F S_ .f32 := constant S_ .f32 0x3F800000#32
  let main_v40 : FVec F S8192x1 .f32 := broadcastInDim S8192x1 ![] bcast_S_S8192x1 main_cst_7
  let main_v41 : FVec F S8192x1 .f32 := Host.divf main_v40 main_v39
  let main_v42 : FVec F S4096x2 .f32 := shapeCast S4096x2 main_v41 shapeCasts_S8192x1_S4096x2
  let main_cst_8 : FVec F S_ .f32 := constant S_ .f32 0x00000000#32
  let main_v43 : FVec F S4096x103 .f32 := broadcastInDim S4096x103 ![] bcast_S_S4096x103 main_cst_8
  let main_v44 : FVec F S4096x103 .f32 := maximumf main_arg2 main_v43
  let main_v45 : FVec F S4096x103 .f32 := Host.absf main_arg2
  let main_v46 : FVec F S4096x103 .f32 := Host.negf main_v45
  let main_v47 : FVec F S4096x103 .f32 := Host.exp main_v46
  let main_v48 : FVec F S4096x103 .f32 := Host.log1p main_v47
  let main_v49 : FVec F S4096x103 .f32 := addf main_v44 main_v48
  let main_v50 : IVec S64 32 := iotaInDim S64 32 0
  let main_v51 : FVec F S64 .f32 := sitofp .f32 main_v50
  let main_cst_9 : FVec F S_ .f32 := constant S_ .f32 0x3F000000#32
  let main_v52 : FVec F S64 .f32 := broadcastInDim S64 ![] bcast_S_S64 main_cst_9
  let main_v53 : FVec F S64 .f32 := addf main_v51 main_v52
  let main_v54 : IVec S64 32 := iotaInDim S64 32 0
  let main_v55 : FVec F S64 .f32 := sitofp .f32 main_v54
  let main_cst_10 : FVec F S_ .f32 := constant S_ .f32 0x3F000000#32
  let main_v56 : FVec F S64 .f32 := broadcastInDim S64 ![] bcast_S_S64 main_cst_10
  let main_v57 : FVec F S64 .f32 := addf main_v55 main_v56
  let main_v58 : FVec F S64x64 .f32 := broadcastInDim S64x64 ![0] bcast_S64_S64x64_0 main_v57
  let main_v59 : FVec F S64x64 .f32 := broadcastInDim S64x64 ![1] bcast_S64_S64x64_1 main_v53
  fn_part3 (F := F) main_arg5 main_v7 main_v30 main_v32 main_v33 main_v35 main_v42 main_v49 main_v58 main_v59

def fn_part1 {F : FTy → Type} [FloatOps F] (main_arg2 : FVec F S4096x103 .f32) (main_arg3 : FVec F S8192x2 .f32) (main_arg4 : FVec F S8192x1 .f32) (main_arg5 : FVec F S64x64x103 .f32) (main_v7 : FVec F S4096x2 .f32) (main_v11 : FVec F S4096 .f32) (main_v15 : FVec F S4096 .f32) (main_v17 : FVec F S4096 .f32) (main_cst_4 : FVec F S_ .f32) : IVec S64x64x103 1 :=
  let main_v18 : FVec F S4096 .f32 := broadcastInDim S4096 ![] bcast_S_S4096 main_cst_4
  let main_v19 : FVec F S4096 .f32 := addf main_v17 main_v18
  let main_v20 : FVec F S4096 .f32 := mulf main_v11 main_v11
  let main_v21 : FVec F S4096 .f32 := mulf main_v11 main_v15
  let main_v22 : FVec F S4096 .f32 := mulf main_v15 main_v15
  let main_v23 : FVec F S4096 .f32 := mulf main_v19 main_v19
  let main_v24 : FVec F S4096 .f32 := addf main_v22 main_v23
  let main_v25 : FVec F S4096 .f32 := mulf main_v20 main_v24
  let main_v26 : FVec F S4096 .f32 := mulf main_v21 main_v21
  let main_v27 : FVec F S4096 .f32 := subf main_v25 main_v26
  let main_cst_5 : FVec F S_ .f32 := constant S_ .f32 0x2B8CBCCC#32
  let main_v28 : FVec F S4096 .f32 := broadcastInDim S4096 ![] bcast_S_S4096 main_cst_5
  let main_v29 : FVec F S4096 .f32 := maximumf main_v27 main_v28
  let main_v30 : FVec F S4096 .f32 := Host.divf main_v24 main_v29
  let main_v31 : FVec F S4096 .f32 := Host.negf main_v21
  let main_v32 : FVec F S4096 .f32 := Host.divf main_v31 main_v29
  let main_v33 : FVec F S4096 .f32 := Host.divf main_v20 main_v29
  let main_v34 : FVec F S8192x2 .f32 := Host.exp main_arg3
  let main_v35 : FVec F S4096x2x2 .f32 := shapeCast S4096x2x2 main_v34 shapeCasts_S8192x2_S4096x2x2
  let main_v36 : FVec F S8192x1 .f32 := Host.negf main_arg4
  let main_v37 : FVec F S8192x1 .f32 := Host.exp main_v36
  let main_cst_6 : FVec F S_ .f32 := constant S_ .f32 0x3F800000#32
  let main_v38 : FVec F S8192x1 .f32 := broadcastInDim S8192x1 ![] bcast_S_S8192x1 main_cst_6
  let main_v39 : FVec F S8192x1 .f32 := addf main_v38 main_v37
  fn_part2 (F := F) main_arg2 main_arg5 main_v7 main_v30 main_v32 main_v33 main_v35 main_v39

def fn {F : FTy → Type} [FloatOps F] (main_arg0 : FVec F S4096x2 .f32) (main_arg1 : FVec F S4096x3 .f32) (main_arg2 : FVec F S4096x103 .f32) (main_arg3 : FVec F S8192x2 .f32) (main_arg4 : FVec F S8192x1 .f32) (main_arg5 : FVec F S64x64x103 .f32) : IVec S64x64x103 1 :=
  let main_cst : FVec F S2 .f32 := constant S2 .f32 0x42800000#32
  let main_v0 : FVec F S4096x2 .f32 := Host.tanh main_arg0
  let main_cst_0 : FVec F S_ .f32 := constant S_ .f32 0x3F800000#32
  let main_v1 : FVec F S4096x2 .f32 := broadcastInDim S4096x2 ![] bcast_S_S4096x2 main_cst_0
  let main_v2 : FVec F S4096x2 .f32 := addf main_v0 main_v1
  let main_cst_1 : FVec F S_ .f32 := constant S_ .f32 0x3F000000#32
  let main_v3 : FVec F S4096x2 .f32 := broadcastInDim S4096x2 ![] bcast_S_S4096x2 main_cst_1
  let main_v4 : FVec F S4096x2 .f32 := mulf main_v3 main_v2
  let main_v5 : FVec F S1x2 .f32 := broadcastInDim S1x2 ![1] bcast_S2_S1x2_1 main_cst
  let main_v6 : FVec F S4096x2 .f32 := broadcastInDim S4096x2 ![0, 1] bcast_S1x2_S4096x2_0_1 main_v5
  let main_v7 : FVec F S4096x2 .f32 := mulf main_v4 main_v6
  let main_v8 : FVec F S4096x1 .f32 := (extractStridedSlice S4096x1 ![0, 0] · slices_S4096x3_S4096x1_0_0) main_arg1
  let main_v9 : FVec F S4096 .f32 := shapeCast S4096 main_v8 shapeCasts_S4096x1_S4096
  let main_cst_2 : FVec F S_ .f32 := constant S_ .f32 0x3F000000#32
  let main_v10 : FVec F S4096 .f32 := broadcastInDim S4096 ![] bcast_S_S4096 main_cst_2
  let main_v11 : FVec F S4096 .f32 := addf main_v9 main_v10
  let main_v12 : FVec F S4096x1 .f32 := (extractStridedSlice S4096x1 ![0, 1] · slices_S4096x3_S4096x1_0_1) main_arg1
  let main_v13 : FVec F S4096 .f32 := shapeCast S4096 main_v12 shapeCasts_S4096x1_S4096
  let main_cst_3 : FVec F S_ .f32 := constant S_ .f32 0x00000000#32
  let main_v14 : FVec F S4096 .f32 := broadcastInDim S4096 ![] bcast_S_S4096 main_cst_3
  let main_v15 : FVec F S4096 .f32 := addf main_v13 main_v14
  let main_v16 : FVec F S4096x1 .f32 := (extractStridedSlice S4096x1 ![0, 2] · slices_S4096x3_S4096x1_0_2) main_arg1
  let main_v17 : FVec F S4096 .f32 := shapeCast S4096 main_v16 shapeCasts_S4096x1_S4096
  let main_cst_4 : FVec F S_ .f32 := constant S_ .f32 0x3F000000#32
  fn_part1 (F := F) main_arg2 main_arg3 main_arg4 main_arg5 main_v7 main_v11 main_v15 main_v17 main_cst_4
-- ==== Pre_in_range.lean ====
abbrev S4096x2 : Shape := ⟨2, ![4096, 2]⟩
abbrev S4096x3 : Shape := ⟨2, ![4096, 3]⟩
abbrev S4096x103 : Shape := ⟨2, ![4096, 103]⟩
abbrev S8192x2 : Shape := ⟨2, ![8192, 2]⟩
abbrev S8192x1 : Shape := ⟨2, ![8192, 1]⟩
abbrev S4096x1 : Shape := ⟨2, ![4096, 1]⟩
abbrev S_ : Shape := ⟨0, ![]⟩

class Facts : Prop where
  slices_S4096x3_S4096x1_0_0 : S4096x3.Slices ![0, 0] S4096x1
  bcast_S_S4096x1 : S_.BroadcastsInDim S4096x1 (![] : Fin 0 → Fin S4096x1.rank)
  slices_S4096x3_S4096x1_0_2 : S4096x3.Slices ![0, 2] S4096x1
  bcast_S_S4096x3 : S_.BroadcastsInDim S4096x3 (![] : Fin 0 → Fin S4096x3.rank)
  bcast_S_S8192x2 : S_.BroadcastsInDim S8192x2 (![] : Fin 0 → Fin S8192x2.rank)

variable [Facts]

def fn {F : FTy → Type} [FloatOps F] (main_arg0 : FVec F S4096x2 .f32) (main_arg1 : FVec F S4096x3 .f32) (main_arg2 : FVec F S4096x103 .f32) (main_arg3 : FVec F S8192x2 .f32) (main_arg4 : FVec F S8192x1 .f32) : IVec S4096x3 1 × IVec S4096x1 1 × IVec S8192x2 1 :=
  let main_v0 : FVec F S4096x1 .f32 := (extractStridedSlice S4096x1 ![0, 0] · slices_S4096x3_S4096x1_0_0) main_arg1
  let main_cst : FVec F S_ .f32 := constant S_ .f32 0x3F000000#32
  let main_v1 : FVec F S4096x1 .f32 := broadcastInDim S4096x1 ![] bcast_S_S4096x1 main_cst
  let main_v2 : FVec F S4096x1 .f32 := addf main_v0 main_v1
  let main_v3 : FVec F S4096x1 .f32 := (extractStridedSlice S4096x1 ![0, 2] · slices_S4096x3_S4096x1_0_2) main_arg1
  let main_cst_0 : FVec F S_ .f32 := constant S_ .f32 0x3F000000#32
  let main_v4 : FVec F S4096x1 .f32 := broadcastInDim S4096x1 ![] bcast_S_S4096x1 main_cst_0
  let main_v5 : FVec F S4096x1 .f32 := addf main_v3 main_v4
  let main_v6 : FVec F S4096x1 .f32 := mulf main_v2 main_v5
  let main_v7 : FVec F S4096x3 .f32 := Host.absf main_arg1
  let main_cst_1 : FVec F S_ .f32 := constant S_ .f32 0x7F800000#32
  let main_v8 : FVec F S4096x3 .f32 := broadcastInDim S4096x3 ![] bcast_S_S4096x3 main_cst_1
  let main_v9 : IVec S4096x3 1 := cmpf .olt main_v7 main_v8
  let main_v10 : FVec F S4096x1 .f32 := mulf main_v6 main_v6
  let main_cst_2 : FVec F S_ .f32 := constant S_ .f32 0x2B8CBCCC#32
  let main_v11 : FVec F S4096x1 .f32 := broadcastInDim S4096x1 ![] bcast_S_S4096x1 main_cst_2
  let main_v12 : IVec S4096x1 1 := cmpf .oge main_v10 main_v11
  let main_cst_3 : FVec F S_ .f32 := constant S_ .f32 0x7F800000#32
  let main_v13 : FVec F S8192x2 .f32 := broadcastInDim S8192x2 ![] bcast_S_S8192x2 main_cst_3
  let main_v14 : IVec S8192x2 1 := cmpf .olt main_arg3 main_v13
  (main_v9, main_v12, main_v14)
-- ==== Kernel.lean ====
abbrev S4096x2 : Shape := ⟨2, ![4096, 2]⟩
abbrev S4096x3 : Shape := ⟨2, ![4096, 3]⟩
abbrev S4096x103 : Shape := ⟨2, ![4096, 103]⟩
abbrev S8192x2 : Shape := ⟨2, ![8192, 2]⟩
abbrev S8192x1 : Shape := ⟨2, ![8192, 1]⟩
abbrev S4096x2x2 : Shape := ⟨3, ![4096, 2, 2]⟩
abbrev S2x2x4096 : Shape := ⟨3, ![2, 2, 4096]⟩
abbrev S4x4096 : Shape := ⟨2, ![4, 4096]⟩
abbrev S2x4096 : Shape := ⟨2, ![2, 4096]⟩
abbrev S3x4096 : Shape := ⟨2, ![3, 4096]⟩
abbrev S_ : Shape := ⟨0, ![]⟩
abbrev S5x4096 : Shape := ⟨2, ![5, 4096]⟩
abbrev S16x4096 : Shape := ⟨2, ![16, 4096]⟩
abbrev S4096x128 : Shape := ⟨2, ![4096, 128]⟩
abbrev S16x1024 : Shape := ⟨2, ![16, 1024]⟩
abbrev S1024x128 : Shape := ⟨2, ![1024, 128]⟩
abbrev S4096x40 : Shape := ⟨2, ![4096, 40]⟩
abbrev S40x3072 : Shape := ⟨2, ![40, 3072]⟩
abbrev S2x1024 : Shape := ⟨2, ![2, 1024]⟩
abbrev S4096x1 : Shape := ⟨2, ![4096, 1]⟩
abbrev S4096x8 : Shape := ⟨2, ![4096, 8]⟩
abbrev S1x1024 : Shape := ⟨2, ![1, 1024]⟩
abbrev S6x1024 : Shape := ⟨2, ![6, 1024]⟩
abbrev S6x3072 : Shape := ⟨2, ![6, 3072]⟩
abbrev S2x3072 : Shape := ⟨2, ![2, 3072]⟩
abbrev S8x3072 : Shape := ⟨2, ![8, 3072]⟩
abbrev S4096x3072 : Shape := ⟨2, ![4096, 3072]⟩
abbrev S4096x1024 : Shape := ⟨2, ![4096, 1024]⟩
abbrev S64x64x103 : Shape := ⟨3, ![64, 64, 103]⟩

abbrev nBuf : Space → Nat
  | .hbm => 21
  | .vmem => 9
  | .smem => 0
  | _ => 0

abbrev bufTy : (tb : Table) → Fin (tcTables nBuf tb) → BufTy
  | .hbm, ⟨0, _⟩ => ⟨S4096x2, .f32⟩
  | .hbm, ⟨1, _⟩ => ⟨S4096x3, .f32⟩
  | .hbm, ⟨2, _⟩ => ⟨S4096x103, .f32⟩
  | .hbm, ⟨3, _⟩ => ⟨S8192x2, .f32⟩
  | .hbm, ⟨4, _⟩ => ⟨S8192x1, .f32⟩
  | .hbm, ⟨5, _⟩ => ⟨S4096x2x2, .f32⟩
  | .hbm, ⟨6, _⟩ => ⟨S2x2x4096, .f32⟩
  | .hbm, ⟨7, _⟩ => ⟨S4x4096, .f32⟩
  | .hbm, ⟨8, _⟩ => ⟨S4096x2, .f32⟩
  | .hbm, ⟨9, _⟩ => ⟨S2x4096, .f32⟩
  | .hbm, ⟨10, _⟩ => ⟨S2x4096, .f32⟩
  | .hbm, ⟨11, _⟩ => ⟨S3x4096, .f32⟩
  | .hbm, ⟨12, _⟩ => ⟨S_, .f32⟩
  | .hbm, ⟨13, _⟩ => ⟨S5x4096, .f32⟩
  | .hbm, ⟨14, _⟩ => ⟨S16x4096, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .f32⟩
  | .hbm, ⟨19, _⟩ => ⟨S4096x103, .f32⟩
  | .hbm, ⟨20, _⟩ => ⟨S64x64x103, .f32⟩
  | .local _ .vmem, ⟨0, _⟩ => ⟨S16x1024, .f32⟩
  | .local _ .vmem, ⟨1, _⟩ => ⟨S16x1024, .f32⟩
  | .local _ .vmem, ⟨2, _⟩ => ⟨S1024x128, .f32⟩
  | .local _ .vmem, ⟨3, _⟩ => ⟨S1024x128, .f32⟩
  | .local _ .vmem, ⟨4, _⟩ => ⟨S4096x128, .f32⟩
  | .local _ .vmem, ⟨5, _⟩ => ⟨S4096x40, .bf16⟩
  | .local _ .vmem, ⟨6, _⟩ => ⟨S40x3072, .bf16⟩
  | .local _ .vmem, ⟨7, _⟩ => ⟨S2x1024, .f32⟩
  | .local _ .vmem, ⟨8, _⟩ => ⟨S1024x128, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_54 : BitVec 32 := 0#32
  let v191 : BitVec 1 := Scalar.cmpi .eq arg0 c0_i32_54
  let v192 : BitVec 32 := Scalar.extui v191
  let c0_i32_55 : BitVec 32 := 0#32
  let v193 : BitVec 1 := Scalar.cmpi .ne v192 c0_i32_55
  v193

def k0_cond3 (i : grid0.Coords) : BitVec 1 :=
  let arg0 : BitVec 32 := BitVec.ofNat 32 (i 0).val
  let c0_i32_56 : BitVec 32 := 0#32
  let v194 : BitVec 1 := Scalar.cmpi .sgt arg0 c0_i32_56
  let v195 : BitVec 32 := Scalar.extui v194
  let c0_i32_57 : BitVec 32 := 0#32
  let v196 : BitVec 1 := Scalar.cmpi .ne v195 c0_i32_57
  v196

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "sqrt_half_log2e" => some (((Real.sqrt (2 * (Real.log 2)))⁻¹ : ℝ) : EReal)
  | _ => none
-- ==== ReferenceIdeal.lean ====
abbrev S4096x2 : Shape := ⟨2, ![4096, 2]⟩
abbrev S4096x3 : Shape := ⟨2, ![4096, 3]⟩
abbrev S4096x103 : Shape := ⟨2, ![4096, 103]⟩
abbrev S8192x2 : Shape := ⟨2, ![8192, 2]⟩
abbrev S8192x1 : Shape := ⟨2, ![8192, 1]⟩
abbrev S2 : Shape := ⟨1, ![2]⟩
abbrev S_ : Shape := ⟨0, ![]⟩
abbrev S1x2 : Shape := ⟨2, ![1, 2]⟩
abbrev S4096x1 : Shape := ⟨2, ![4096, 1]⟩
abbrev S4096 : Shape := ⟨1, ![4096]⟩
abbrev S4096x2x2 : Shape := ⟨3, ![4096, 2, 2]⟩
abbrev S64 : Shape := ⟨1, ![64]⟩
abbrev S64x64 : Shape := ⟨2, ![64, 64]⟩
abbrev S64x64x1 : Shape := ⟨3, ![64, 64, 1]⟩
abbrev S1x1x4096 : Shape := ⟨3, ![1, 1, 4096]⟩
abbrev S64x64x4096 : Shape := ⟨3, ![64, 64, 4096]⟩
abbrev S64x64x4096x1 : Shape := ⟨4, ![64, 64, 4096, 1]⟩
abbrev S4096x2x1 : Shape := ⟨3, ![4096, 2, 1]⟩
abbrev S1x1x4096x2 : Shape := ⟨4, ![1, 1, 4096, 2]⟩
abbrev S64x64x4096x2 : Shape := ⟨4, ![64, 64, 4096, 2]⟩
abbrev S64x64x103 : Shape := ⟨3, ![64, 64, 103]⟩
abbrev S103 : Shape := ⟨1, ![103]⟩
abbrev S1x1x103 : Shape := ⟨3, ![1, 1, 103]⟩

abbrev nBuf : Space → Nat
  | .hbm => 166
  | .vmem => 0
  | .smem => 0
  | _ => 0

abbrev hbmTy0_0 (i : Nat) : BufTy := match i % 128 with
  | 0 => ⟨S4096x2, .f32⟩
  | 1 => ⟨S4096x3, .f32⟩
  | 2 => ⟨S4096x103, .f32⟩
  | 3 => ⟨S8192x2, .f32⟩
  | 4 => ⟨S8192x1, .f32⟩
  | 5 => ⟨S2, .f32⟩
  | 6 => ⟨S4096x2, .f32⟩
  | 7 => ⟨S_, .f32⟩
  | 8 => ⟨S4096x2, .f32⟩
  | 9 => ⟨S4096x2, .f32⟩
  | 10 => ⟨S_, .f32⟩
  | 11 => ⟨S4096x2, .f32⟩
  | 12 => ⟨S4096x2, .f32⟩
  | 13 => ⟨S1x2, .f32⟩
  | 14 => ⟨S4096x2, .f32⟩
  | 15 => ⟨S4096x2, .f32⟩
  | 16 => ⟨S4096x1, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096, .f32⟩
  | 23 => ⟨S_, .f32⟩
  | 24 => ⟨S4096, .f32⟩
  | 25 => ⟨S4096, .f32⟩
  | 26 => ⟨S4096x1, .f32⟩
  | 27 => ⟨S4096, .f32⟩
  | 28 => ⟨S_, .f32⟩
  | 29 => ⟨S4096, .f32⟩
  | 30 => ⟨S4096, .f32⟩
  | 31 => ⟨S4096, .f32⟩
  | 32 => ⟨S4096, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096, .f32⟩
  | 39 => ⟨S_, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S8192x2, .f32⟩
  | 47 => ⟨S4096x2x2, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S4096x2, .f32⟩
  | 57 => ⟨S_, .f32⟩
  | 58 => ⟨S4096x103, .f32⟩
  | 59 => ⟨S4096x103, .f32⟩
  | 60 => ⟨S4096x103, .f32⟩
  | 61 => ⟨S4096x103, .f32⟩
  | 62 => ⟨S4096x103, .f32⟩
  | 63 => ⟨S4096x103, .f32⟩
  | 64 => ⟨S4096x103, .f32⟩
  | 65 => ⟨S64, .i32⟩
  | 66 => ⟨S64, .f32⟩
  | 67 => ⟨S_, .f32⟩
  | 68 => ⟨S64, .f32⟩
  | 69 => ⟨S64, .f32⟩
  | 70 => ⟨S64, .i32⟩
  | 71 => ⟨S64, .f32⟩
  | 72 => ⟨S_, .f32⟩
  | 73 => ⟨S64, .f32⟩
  | 74 => ⟨S64, .f32⟩
  | 75 => ⟨S64x64, .f32⟩
  | 76 => ⟨S64x64, .f32⟩
  | 77 => ⟨S64x64x1, .f32⟩
  | 78 => ⟨S4096x1, .f32⟩
  | 79 => ⟨S4096, .f32⟩
  | 80 => ⟨S1x1x4096, .f32⟩
  | 81 => ⟨S64x64x4096, .f32⟩
  | 82 => ⟨S64x64x4096, .f32⟩
  | 83 => ⟨S64x64x4096, .f32⟩
  | 84 => ⟨S64x64x1, .f32⟩
  | 85 => ⟨S4096x1, .f32⟩
  | 86 => ⟨S4096, .f32⟩
  | 87 => ⟨S1x1x4096, .f32⟩
  | 88 => ⟨S64x64x4096, .f32⟩
  | 89 => ⟨S64x64x4096, .f32⟩
  | 90 => ⟨S64x64x4096, .f32⟩
  | 91 => ⟨S1x1x4096, .f32⟩
  | 92 => ⟨S64x64x4096, .f32⟩
  | 93 => ⟨S64x64x4096, .f32⟩
  | 94 => ⟨S64x64x4096, .f32⟩
  | 95 => ⟨S1x1x4096, .f32⟩
  | 96 => ⟨S64x64x4096, .f32⟩
  | 97 => ⟨S64x64x4096, .f32⟩
  | 98 => ⟨S64x64x4096, .f32⟩
  | 99 => ⟨S64x64x4096, .f32⟩
  | 100 => ⟨S_, .f32⟩
  | 101 => ⟨S64x64x4096, .f32⟩
  | 102 => ⟨S64x64x4096, .f32⟩
  | 103 => ⟨S1x1x4096, .f32⟩
  | 104 => ⟨S64x64x4096, .f32⟩
  | 105 => ⟨S64x64x4096, .f32⟩
  | 106 => ⟨S64x64x4096, .f32⟩
  | 107 => ⟨S64x64x4096, .f32⟩
  | 108 => ⟨S_, .f32⟩
  | 109 => ⟨S64x64x4096, .f32⟩
  | 110 => ⟨S64x64x4096, .f32⟩
  | 111 => ⟨S64x64x4096, .f32⟩
  | 112 => ⟨S64x64x4096, .f32⟩
  | 113 => ⟨S64x64x4096x1, .f32⟩
  | 114 => ⟨S4096x2x1, .f32⟩
  | 115 => ⟨S4096x2, .f32⟩
  | 116 => ⟨S1x1x4096x2, .f32⟩
  | 117 => ⟨S64x64x4096x2, .f32⟩
  | 118 => ⟨S64x64x4096x2, .f32⟩
  | 119 => ⟨S64x64x4096x2, .f32⟩
  | 120 => ⟨S64x64x4096x1, .f32⟩
  | 121 => ⟨S4096x2x1, .f32⟩
  | 122 => ⟨S4096x2, .f32⟩
  | 123 => ⟨S1x1x4096x2, .f32⟩
  | 124 => ⟨S64x64x4096x2, .f32⟩
  | 125 => ⟨S64x64x4096x2, .f32⟩
  | 126 => ⟨S64x64x4096x2, .f32⟩
  | 127 => ⟨S64x64x4096x2, .f32⟩
  | _ => ⟨S4096x2, .f32⟩

abbrev hbmTy0_1 (i : Nat) : BufTy := match i % 128 with
  | 0 => ⟨S64x64x4096x2, .f32⟩
  | 1 => ⟨S64x64x4096x2, .f32⟩
  | 2 => ⟨S64x64x4096x2, .f32⟩
  | 3 => ⟨S_, .f32⟩
  | 4 => ⟨S64x64x4096x2, .f32⟩
  | 5 => ⟨S64x64x4096x2, .f32⟩
  | 6 => ⟨S_, .f32⟩
  | 7 => ⟨S64x64x4096x2, .f32⟩
  | 8 => ⟨S64x64x4096x2, .f32⟩
  | 9 => ⟨S64x64x4096x2, .f32⟩
  | 10 => ⟨S_, .f32⟩
  | 11 => ⟨S64x64x4096x2, .f32⟩
  | 12 => ⟨S64x64x4096x2, .f32⟩
  | 13 => ⟨S64x64x4096x2, .f32⟩
  | 14 => ⟨S64x64x4096x2, .f32⟩
  | 15 => ⟨S64x64x4096x2, .f32⟩
  | 16 => ⟨S_, .f32⟩
  | 17 => ⟨S64x64x4096x2, .f32⟩
  | 18 => ⟨S64x64x4096x2, .f32⟩
  | 19 => ⟨S64x64x4096x2, .f32⟩
  | 20 => ⟨S64x64x4096x2, .f32⟩
  | 21 => ⟨S64x64x4096x2, .f32⟩
  | 22 => ⟨S_, .f32⟩
  | 23 => ⟨S64x64x4096x2, .f32⟩
  | 24 => ⟨S64x64x4096x2, .f32⟩
  | 25 => ⟨S64x64x4096x2, .f32⟩
  | 26 => ⟨S1x1x4096x2, .f32⟩
  | 27 => ⟨S64x64x4096x2, .f32⟩
  | 28 => ⟨S64x64x4096x2, .f32⟩
  | 29 => ⟨S_, .f32⟩
  | 30 => ⟨S64x64x4096, .f32⟩
  | 31 => ⟨S64x64x4096, .f32⟩
  | 32 => ⟨S64x64x103, .f32⟩
  | 33 => ⟨S_, .f32⟩
  | 34 => ⟨S103, .f32⟩
  | 35 => ⟨S1x1x103, .f32⟩
  | 36 => ⟨S64x64x103, .f32⟩
  | 37 => ⟨S64x64x103, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_13 : Ref sig .tc := ⟨.hbm, 131, rfl⟩
abbrev main_v112 : Ref sig .tc := ⟨.hbm, 132, rfl⟩
abbrev main_v113 : Ref sig .tc := ⟨.hbm, 133, rfl⟩
abbrev main_cst_14 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_15 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_16 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_17 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_18 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_cst_19 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== ExactIdeal.lean ====
abbrev S4096x2 : Shape := ⟨2, ![4096, 2]⟩
abbrev S4096x3 : Shape := ⟨2, ![4096, 3]⟩
abbrev S4096x103 : Shape := ⟨2, ![4096, 103]⟩
abbrev S8192x2 : Shape := ⟨2, ![8192, 2]⟩
abbrev S8192x1 : Shape := ⟨2, ![8192, 1]⟩
abbrev S2 : Shape := ⟨1, ![2]⟩
abbrev S_ : Shape := ⟨0, ![]⟩
abbrev S1x2 : Shape := ⟨2, ![1, 2]⟩
abbrev S4096x1 : Shape := ⟨2, ![4096, 1]⟩
abbrev S4096 : Shape := ⟨1, ![4096]⟩
abbrev S4096x2x2 : Shape := ⟨3, ![4096, 2, 2]⟩
abbrev S64 : Shape := ⟨1, ![64]⟩
abbrev S64x64 : Shape := ⟨2, ![64, 64]⟩
abbrev S64x64x1 : Shape := ⟨3, ![64, 64, 1]⟩
abbrev S1x1x4096 : Shape := ⟨3, ![1, 1, 4096]⟩
abbrev S64x64x4096 : Shape := ⟨3, ![64, 64, 4096]⟩
abbrev S64x64x4096x1 : Shape := ⟨4, ![64, 64, 4096, 1]⟩
abbrev S4096x2x1 : Shape := ⟨3, ![4096, 2, 1]⟩
abbrev S1x1x4096x2 : Shape := ⟨4, ![1, 1, 4096, 2]⟩
abbrev S64x64x4096x2 : Shape := ⟨4, ![64, 64, 4096, 2]⟩
abbrev S64x64x103 : Shape := ⟨3, ![64, 64, 103]⟩
abbrev S103 : Shape := ⟨1, ![103]⟩
abbrev S1x1x103 : Shape := ⟨3, ![1, 1, 103]⟩

abbrev nBuf : Space → Nat
  | .hbm => 161
  | .vmem => 0
  | .smem => 0
  | _ => 0

abbrev hbmTy0_0 (i : Nat) : BufTy := match i % 128 with
  | 0 => ⟨S4096x2, .f32⟩
  | 1 => ⟨S4096x3, .f32⟩
  | 2 => ⟨S4096x103, .f32⟩
  | 3 => ⟨S8192x2, .f32⟩
  | 4 => ⟨S8192x1, .f32⟩
  | 5 => ⟨S2, .f32⟩
  | 6 => ⟨S4096x2, .f32⟩
  | 7 => ⟨S_, .f32⟩
  | 8 => ⟨S4096x2, .f32⟩
  | 9 => ⟨S4096x2, .f32⟩
  | 10 => ⟨S_, .f32⟩
  | 11 => ⟨S4096x2, .f32⟩
  | 12 => ⟨S4096x2, .f32⟩
  | 13 => ⟨S1x2, .f32⟩
  | 14 => ⟨S4096x2, .f32⟩
  | 15 => ⟨S4096x2, .f32⟩
  | 16 => ⟨S4096x1, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096, .f32⟩
  | 23 => ⟨S_, .f32⟩
  | 24 => ⟨S4096, .f32⟩
  | 25 => ⟨S4096, .f32⟩
  | 26 => ⟨S4096x1, .f32⟩
  | 27 => ⟨S4096, .f32⟩
  | 28 => ⟨S_, .f32⟩
  | 29 => ⟨S4096, .f32⟩
  | 30 => ⟨S4096, .f32⟩
  | 31 => ⟨S4096, .f32⟩
  | 32 => ⟨S4096, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096, .f32⟩
  | 39 => ⟨S_, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S8192x2, .f32⟩
  | 47 => ⟨S4096x2x2, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S4096x2, .f32⟩
  | 57 => ⟨S_, .f32⟩
  | 58 => ⟨S4096x103, .f32⟩
  | 59 => ⟨S4096x103, .f32⟩
  | 60 => ⟨S4096x103, .f32⟩
  | 61 => ⟨S4096x103, .f32⟩
  | 62 => ⟨S4096x103, .f32⟩
  | 63 => ⟨S4096x103, .f32⟩
  | 64 => ⟨S4096x103, .f32⟩
  | 65 => ⟨S64, .i32⟩
  | 66 => ⟨S64, .f32⟩
  | 67 => ⟨S_, .f32⟩
  | 68 => ⟨S64, .f32⟩
  | 69 => ⟨S64, .f32⟩
  | 70 => ⟨S64, .i32⟩
  | 71 => ⟨S64, .f32⟩
  | 72 => ⟨S_, .f32⟩
  | 73 => ⟨S64, .f32⟩
  | 74 => ⟨S64, .f32⟩
  | 75 => ⟨S64x64, .f32⟩
  | 76 => ⟨S64x64, .f32⟩
  | 77 => ⟨S64x64x1, .f32⟩
  | 78 => ⟨S4096x1, .f32⟩
  | 79 => ⟨S4096, .f32⟩
  | 80 => ⟨S1x1x4096, .f32⟩
  | 81 => ⟨S64x64x4096, .f32⟩
  | 82 => ⟨S64x64x4096, .f32⟩
  | 83 => ⟨S64x64x4096, .f32⟩
  | 84 => ⟨S64x64x1, .f32⟩
  | 85 => ⟨S4096x1, .f32⟩
  | 86 => ⟨S4096, .f32⟩
  | 87 => ⟨S1x1x4096, .f32⟩
  | 88 => ⟨S64x64x4096, .f32⟩
  | 89 => ⟨S64x64x4096, .f32⟩
  | 90 => ⟨S64x64x4096, .f32⟩
  | 91 => ⟨S1x1x4096, .f32⟩
  | 92 => ⟨S64x64x4096, .f32⟩
  | 93 => ⟨S64x64x4096, .f32⟩
  | 94 => ⟨S64x64x4096, .f32⟩
  | 95 => ⟨S1x1x4096, .f32⟩
  | 96 => ⟨S64x64x4096, .f32⟩
  | 97 => ⟨S64x64x4096, .f32⟩
  | 98 => ⟨S64x64x4096, .f32⟩
  | 99 => ⟨S64x64x4096, .f32⟩
  | 100 => ⟨S_, .f32⟩
  | 101 => ⟨S64x64x4096, .f32⟩
  | 102 => ⟨S64x64x4096, .f32⟩
  | 103 => ⟨S1x1x4096, .f32⟩
  | 104 => ⟨S64x64x4096, .f32⟩
  | 105 => ⟨S64x64x4096, .f32⟩
  | 106 => ⟨S64x64x4096, .f32⟩
  | 107 => ⟨S64x64x4096, .f32⟩
  | 108 => ⟨S_, .f32⟩
  | 109 => ⟨S64x64x4096, .f32⟩
  | 110 => ⟨S64x64x4096, .f32⟩
  | 111 => ⟨S64x64x4096, .f32⟩
  | 112 => ⟨S64x64x4096, .f32⟩
  | 113 => ⟨S64x64x4096x1, .f32⟩
  | 114 => ⟨S4096x2x1, .f32⟩
  | 115 => ⟨S4096x2, .f32⟩
  | 116 => ⟨S1x1x4096x2, .f32⟩
  | 117 => ⟨S64x64x4096x2, .f32⟩
  | 118 => ⟨S64x64x4096x2, .f32⟩
  | 119 => ⟨S64x64x4096x2, .f32⟩
  | 120 => ⟨S64x64x4096x1, .f32⟩
  | 121 => ⟨S4096x2x1, .f32⟩
  | 122 => ⟨S4096x2, .f32⟩
  | 123 => ⟨S1x1x4096x2, .f32⟩
  | 124 => ⟨S64x64x4096x2, .f32⟩
  | 125 => ⟨S64x64x4096x2, .f32⟩
  | 126 => ⟨S64x64x4096x2, .f32⟩
  | 127 => ⟨S64x64x4096x2, .f32⟩
  | _ => ⟨S4096x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S64x64x4096x2, .f32⟩
  | 5 => ⟨S64x64x4096x2, .f32⟩
  | 6 => ⟨S64x64x4096x2, .f32⟩
  | 7 => ⟨S1x1x4096x2, .f32⟩
  | 8 => ⟨S64x64x4096x2, .f32⟩
  | 9 => ⟨S64x64x4096x2, .f32⟩
  | 10 => ⟨S_, .f32⟩
  | 11 => ⟨S64x64x4096, .f32⟩
  | 12 => ⟨S64x64x4096, .f32⟩
  | 13 => ⟨S64x64x103, .f32⟩
  | 14 => ⟨S_, .f32⟩
  | 15 => ⟨S103, .f32⟩
  | 16 => ⟨S1x1x103, .f32⟩
  | 17 => ⟨S64x64x103, .f32⟩
  | 18 => ⟨S64x64x103, .f32⟩
  | 19 => ⟨S_, .f32⟩
  | 20 => ⟨S64x64x4096x2, .f32⟩
  | 21 => ⟨S1x1x4096x2, .f32⟩
  | 22 => ⟨S64x64x4096x2, .f32⟩
  | 23 => ⟨S64x64x4096x2, .f32⟩
  | 24 => ⟨S_, .f32⟩
  | 25 => ⟨S64x64x4096, .f32⟩
  | 26 => ⟨S64x64x4096, .f32⟩
  | 27 => ⟨S64x64x103, .f32⟩
  | 28 => ⟨S_, .f32⟩
  | 29 => ⟨S103, .f32⟩
  | 30 => ⟨S1x1x103, .f32⟩
  | 31 => ⟨S64x64x103, .f32⟩
  | 32 => ⟨S64x64x103, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_13 : Ref sig .tc := ⟨.hbm, 128, rfl⟩
abbrev main_v109 : Ref sig .tc := ⟨.hbm, 129, rfl⟩
abbrev main_cst_14 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_15 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_16 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_17 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_18 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_19 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩

abbrev nD : Nat := 1
abbrev τ : Topo := Topo.v7x

variable {F : FTy → Type} [FloatOps F]
-- ==== Proof.Block.lean ====
/- One grid point of the kernel as a function of the blocks it reads: the basis of pixel monomials, the forms of one
   block of gaussians, and the block's contribution to the image. -/
module

public import proofs.«01_k».proof.Proof.Gen.KernelIdeal.Frame
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Tactic

variable {F : FTy → Type} [FloatOps F] [Named F]

theorem hz : (![0, 0] : Fin 2 → Nat) = fun _ => 0 := funext fun a => by fin_cases a <;> rfl

/-- The pixel monomials, five copies of eight columns: what the first point leaves in the carried scratch. -/
def basis : FVec F S4096x40 .bf16 := k0_pay5 (k0_pay3 (F := F)) (k0_pay4 (F := F)) (Scalar.ofBits .f32 0x3F000000#32)

/-- The forms' coefficients of one block of gaussians, eight rows: quadratic form, first phase, second phase. -/
def coefs (x : Vec F S16x1024 .f32) : FVec F S8x3072 .f32 :=
  k0_pay15 (k0_pay6 x) (k0_pay7 x) (k0_pay8 x) (k0_pay10 x) (k0_pay11 x) (k0_pay12 x) (k0_pay13 x) (k0_pay14 x)

/-- The coefficients in their high, middle and low parts, five copies of eight rows. -/
def parts (x : Vec F S16x1024 .f32) : FVec F S40x3072 .bf16 := k0_pay17 (coefs x) (truncf .bf16 (coefs x) bitsLt_bf16_f32)

/-- Row `r` of the two rows of weights. -/
def wrow0 (x : Vec F S16x1024 .f32) : Vec F S1x1024 .f32 :=
  View.ld (k0_pay18 (k0_pay6 x)) (Rect.unit (s := S2x1024) ![0, 0] S1x1024.size inb_S2x1024_S1x1024_0_0)
def wrow1 (x : Vec F S16x1024 .f32) : Vec F S1x1024 .f32 :=
  View.ld (k0_pay18 (k0_pay6 x)) (Rect.unit (s := S2x1024) ![1, 0] S1x1024.size inb_S2x1024_S1x1024_1_0)

/-- What one block of gaussians adds to the image, over the carried basis `a`. -/
def term (a : FVec F S4096x40 .bf16) (x : Vec F S16x1024 .f32) (f : Vec F S1024x128 .f32) : FVec F S4096x128 .f32 :=
  k0_pay1 (k0_pay21 a (parts x)) (wrow1 x)
    (k0_pay25 (k0_pay22 a (parts x)) (k0_pay24 a (parts x)) (wrow0 x))
    (k0_pay26 (k0_pay23 a (parts x))) (k0_pay27 (k0_pay23 a (parts x)) (wrow1 x)) (k0_pay28 (wrow1 x)) (k0_pay19 f)

/-- The first point leaves the basis in the carried scratch. -/
theorem sout_first (c : Dev nD) (i : grid0.Coords) (arg1 : Memref sig .tc .vmem S16x1024 .f32) (harg1 : arg1.IsWhole)
    (arg2 : Memref sig .tc .vmem S1024x128 .f32) (harg2 : arg2.IsWhole) (arg3 : Memref sig .tc .vmem S4096x128 .f32) (harg3 : arg3.IsWhole)
    (arg4 : Memref sig .tc .vmem S4096x40 .bf16) (harg4 : arg4.IsWhole) (arg5 : Memref sig .tc .vmem S40x3072 .bf16) (harg5 : arg5.IsWhole)
    (arg6 : Memref sig .tc .vmem S2x1024 .f32) (harg6 : arg6.IsWhole) (arg7 : Memref sig .tc .vmem S1024x128 .f32) (harg7 : arg7.IsWhole)
    (hc0 : cond0_0 i) (hc1 : cond0_1 i) (hc2 : ¬cond0_2 i) (x0 : Vec F S16x1024 .f32) (x1 : Vec F S1024x128 .f32) :
    sout0_A_0 c i arg1 harg1 arg2 harg2 arg3 harg3 arg4 harg4 arg5 harg5 arg6 harg6 arg7 harg7 hc0 hc1 hc2 x0 x1 = basis := by
  unfold sout0_A_0
  rw [View.read_writes_eq_canon _ _ _ (scover0_A_0 c i arg1 harg1 arg2 harg2 arg3 harg3 arg4 harg4 arg5 harg5 arg6 harg6 arg7 harg7 hc0 hc1 hc2 x0 x1)]
  unfold kernelRun0_A
  dsimp only
  sl_unfold_words
  rw [View.canon_unit_zero (S := S4096x40) hz]
  rfl

/-- A load of what one store of the whole array left reads the stored array. -/
theorem readCov_ld {Val : EltTy → Type} [∀ e, Nonempty (Val e)] {S : Shape} {e : EltTy} {κ : Kind} {sp : Space} (v : View sig κ sp S e)
    {off : Fin S.rank → Nat} (h : off = fun _ => 0) (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

set_option maxHeartbeats 4000000 in
/-- The first point leaves its block's term. -/
theorem out_first (c : Dev nD) (i : grid0.Coords) (arg1 : Memref sig .tc .vmem S16x1024 .f32) (harg1 : arg1.IsWhole)
    (arg2 : Memref sig .tc .vmem S1024x128 .f32) (harg2 : arg2.IsWhole) (arg3 : Memref sig .tc .vmem S4096x128 .f32) (harg3 : arg3.IsWhole)
    (arg4 : Memref sig .tc .vmem S4096x40 .bf16) (harg4 : arg4.IsWhole) (arg5 : Memref sig .tc .vmem S40x3072 .bf16) (harg5 : arg5.IsWhole)
    (arg6 : Memref sig .tc .vmem S2x1024 .f32) (harg6 : arg6.IsWhole) (arg7 : Memref sig .tc .vmem S1024x128 .f32) (harg7 : arg7.IsWhole)
    (hc0 : cond0_0 i) (hc1 : cond0_1 i) (hc2 : ¬cond0_2 i) (x0 : Vec F S16x1024 .f32) (x1 : Vec F S1024x128 .f32) :
    out0_A_2 c i arg1 harg1 arg2 harg2 arg3 harg3 arg4 harg4 arg5 harg5 arg6 harg6 arg7 harg7 hc0 hc1 hc2 x0 x1 = term basis x0 x1 := by
  unfold out0_A_2
  rw [View.read_writes_eq_canon _ _ _ (cover0_A_2 c i arg1 harg1 arg2 harg2 arg3 harg3 arg4 harg4 arg5 harg5 arg6 harg6 arg7 harg7 hc0 hc1 hc2 x0 x1)]
  unfold kernelRun0_A
  dsimp only
  sl_unfold_words
  rw [View.canon_unit_zero (S := S4096x128) hz]
  simp only [View.readAt_eq_ld, harg1.read_unread, harg2.read_unread, View.ld_unit_zero (S := S16x1024) hz,
    View.ld_unit_zero (S := S1024x128) hz, View.readCov_unit_zero (S := S4096x40) _ hz, View.readCov_unit_zero (S := S40x3072) _ hz,
    View.readCov_unit_zero (S := S1024x128) _ hz, readCov_ld (S := S2x1024) _ hz]
  rfl

set_option maxHeartbeats 4000000 in
/-- A later point adds its block's term to what the buffer held, over the basis `b` the scratch holds. -/
theorem out_next (c : Dev nD) (i : grid0.Coords) (arg1 : Memref sig .tc .vmem S16x1024 .f32) (harg1 : arg1.IsWhole)
    (arg2 : Memref sig .tc .vmem S1024x128 .f32) (harg2 : arg2.IsWhole) (arg3 : Memref sig .tc .vmem S4096x128 .f32) (harg3 : arg3.IsWhole)
    (arg4 : Memref sig .tc .vmem S4096x40 .bf16) (harg4 : arg4.IsWhole) (arg5 : Memref sig .tc .vmem S40x3072 .bf16) (harg5 : arg5.IsWhole)
    (arg6 : Memref sig .tc .vmem S2x1024 .f32) (harg6 : arg6.IsWhole) (arg7 : Memref sig .tc .vmem S1024x128 .f32) (harg7 : arg7.IsWhole)
    (hc0 : ¬cond0_0 i) (hc1 : ¬cond0_1 i) (hc2 : cond0_2 i) (x0 : Vec F S16x1024 .f32) (x1 : Vec F S1024x128 .f32)
    (o : Vec F S4096x128 .f32) (b : Vec F S4096x40 .bf16) :
    out0_B_2 c i arg1 harg1 arg2 harg2 arg3 harg3 arg4 harg4 arg5 harg5 arg6 harg6 arg7 harg7 hc0 hc1 hc2 x0 x1 o b = addf o (term b x0 x1) := by
  unfold out0_B_2
  rw [View.read_writes_eq_canon _ _ _ (cover0_B_2 c i arg1 harg1 arg2 harg2 arg3 harg3 arg4 harg4 arg5 harg5 arg6 harg6 arg7 harg7 hc0 hc1 hc2 x0 x1 o b)]
  unfold kernelRun0_B
  dsimp only
  sl_unfold_words
  rw [View.canon_unit_zero (S := S4096x128) hz]
  simp only [View.readAt_eq_ld, harg1.read_unread, harg2.read_unread, harg3.read_unread, harg4.read_unread,
    View.ld_unit_zero (S := S16x1024) hz, View.ld_unit_zero (S := S4096x128) hz, View.ld_unit_zero (S := S4096x40) hz,
    View.ld_unit_zero (S := S1024x128) hz, View.readCov_unit_zero (S := S40x3072) _ hz,
    View.readCov_unit_zero (S := S1024x128) _ hz, readCov_ld (S := S2x1024) _ hz]
  unfold k0_pay2
  dsimp only
  rw [shapeCast_self]
  rfl

end Cert.KernelIdeal.Block

end
-- ==== Proof.Chain.lean ====
/- The running sum over the grid's four points: what the output's buffer holds after each. -/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The running sum of the blocks' terms after point `n`. -/
def chain (c : Dev nD) : (n : ℕ) → n < cfg0.N → Vec F S4096x128 .f32
  | 0, h => term basis (iblk m c 0 ⟨0, h⟩) (iblk m c 1 ⟨0, h⟩)
  | n + 1, h => addf (chain c n (Nat.lt_of_succ_lt h)) (term basis (iblk m c 0 ⟨n + 1, h⟩) (iblk m c 1 ⟨n + 1, h⟩))

/-- The first point. -/
theorem outsAt_first (c : Dev nD) (t : Fin cfg0.N) (ht : t.val % 4 = 0) (h1 : ¬1 ≤ t.val) :
    outsAt0 m c t.val t.isLt = (term basis (iblk m c 0 t) (iblk m c 1 t), basis) := by
  rw [outsAt0_A m c t ht ht h1, out_first, sout_first]

/-- A later point. -/
theorem outsAt_next (c : Dev nD) (t : Fin cfg0.N) (ht : ¬t.val % 4 = 0) (h1 : 1 ≤ t.val) (o : Vec F S4096x128 .f32)
    (b : Vec F S4096x40 .bf16)
    (ih : outsAt0 m c (t.val - 1) (Nat.lt_of_le_of_lt (Nat.sub_le _ _) t.isLt) = (o, b)) :
    outsAt0 m c t.val t.isLt = (addf o (term b (iblk m c 0 t) (iblk m c 1 t)), b) := by
  rw [outsAt0_B m c t ht ht h1, out_next, ih, sout0_B_0]

/-- After point `n` the output's buffer holds the running sum and the carried scratch the basis. -/
theorem outsAt_eq (c : Dev nD) (n : ℕ) : ∀ h : n < cfg0.N, outsAt0 m c n h = (chain m c n h, basis) := by
  induction n with
  | zero => intro h; rw [chain]; exact outsAt_first m c ⟨0, h⟩ rfl (Nat.not_succ_le_zero 0)
  | succ n ih =>
    intro h
    have hN : n + 1 < 4 := lt_of_lt_of_eq h N_0
    rw [chain]
    exact outsAt_next m c ⟨n + 1, h⟩ (by show ¬(n + 1) % 4 = 0; omega) (Nat.le_add_left 1 n) _ _ (ih (Nat.lt_of_succ_lt h))

end Cert.KernelIdeal.Block

end
-- ==== Proof.Run.lean ====
/- The kernel's result as a function of its arguments' arrays: what the lines before the region pack, what a grid point
   reads of it, the array after the last point and its cut by the lines after the region. -/
module

public import proofs.«01_k».proof.Proof.Chain
public import Idealize.ShloMosaic.Lib.Pointwise
public import Idealize.ShloMosaic.Lib.StableHlo.Run

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.StableHlo

variable {F : FTy → Type} [FloatOps F] [Named F]

/-- The packed parameters, sixteen rows of 4096. -/
def packed (a0 : Vec F S4096x2 .f32) (a1 : Vec F S4096x3 .f32) (a3 : Vec F S8192x2 .f32) (a4 : Vec F S8192x1 .f32) :
    Vec F S16x4096 .f32 :=
  concatenate S16x4096 0 [⟨S2x4096, transpose S2x4096 [1, 0] a0 transposes_S4096x2_S2x4096_1_0⟩,
    ⟨S3x4096, transpose S3x4096 [1, 0] a1 transposes_S4096x3_S3x4096_1_0⟩,
    ⟨S4x4096, shapeCast S4x4096 (transpose S2x2x4096 [1, 2, 0] (shapeCast S4096x2x2 a3 shapeCasts_S8192x2_S4096x2x2)
      transposes_S4096x2x2_S2x2x4096_1_2_0) shapeCasts_S2x2x4096_S4x4096⟩,
    ⟨S2x4096, transpose S2x4096 [1, 0] (shapeCast S4096x2 a4 shapeCasts_S8192x1_S4096x2) transposes_S4096x2_S2x4096_1_0⟩,
    ⟨S5x4096, broadcastInDim S5x4096 ![] bcast_S_S5x4096 (constant S_ .f32 0x00000000#32)⟩]
    concatenates_S2x4096_S3x4096_S4x4096_S2x4096_S5x4096_S16x4096_d0

/-- The padded features. -/
def padded (a2 : Vec F S4096x103 .f32) : Vec F S4096x128 .f32 :=
  pad S4096x128 ![0, 0] ![0, 25] ![0, 0] a2 (sitofp .f32 (constantI S_ 32 0#32)) pads_S4096x103_S4096x128_000_0250 h_S_

variable (m : (ℓ : Loc nD τ sig) → Buf (Elt F) ℓ)

theorem V_packed (c : Dev nD) : V m c main_v8
    = packed (m ((c : Thread nD τ).loc main_arg0)) (m ((c : Thread nD τ).loc main_arg1))
        (m ((c : Thread nD τ).loc main_arg3)) (m ((c : Thread nD τ).loc main_arg4)) := by
  dsimp only [V, V0, hostOps0, hostOps0_1, List.flatten_cons, List.flatten_nil, List.append_nil, List.cons_append, List.nil_append]
  after_results
  rfl

theorem V_padded (c : Dev nD) : V m c main_v9 = padded (m ((c : Thread nD τ).loc main_arg2)) := by
  dsimp only [V, V0, hostOps0, hostOps0_1, List.flatten_cons, List.flatten_nil, List.append_nil, List.cons_append, List.nil_append]
  after_results
  rfl

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem lt4 (t : Fin cfg0.N) : t.val < 4 := lt_of_lt_of_eq t.isLt N_0

/-- A point's block of parameters is 1024 columns of the packed array, of features 1024 rows of the padded one. -/
theorem emb0 (t : Fin cfg0.N) (k : Fin 16) (n : Fin 1024) :
    ((cfg0.win 0).blk t).view.emb (ix2 k n : S16x1024.Idx)
      = (ix2 k ⟨t.val * 1024 + n.val, by have := lt4 t; omega⟩ : S16x4096.Idx) := by
  obtain ⟨e0, e1⟩ := idx0 t
  funext a; apply Fin.ext
  match a with
  | ⟨0, _⟩ => show win0_0.index t (0 : Fin 2) * 16 + 1 * k.val = k.val; omega
  | ⟨1, _⟩ => show win0_0.index t (1 : Fin 2) * 1024 + 1 * n.val = t.val * 1024 + n.val; omega
theorem emb1 (t : Fin cfg0.N) (n : Fin 1024) (q : Fin 128) :
    ((cfg0.win 1).blk t).view.emb (ix2 n q : S1024x128.Idx)
      = (ix2 ⟨t.val * 1024 + n.val, by have := lt4 t; omega⟩ q : S4096x128.Idx) := by
  obtain ⟨e0, e1⟩ := idx1 t
  funext a; apply Fin.ext
  match a with
  | ⟨0, _⟩ => show win0_1.index t (0 : Fin 2) * 1024 + 1 * n.val = t.val * 1024 + n.val; omega
  | ⟨1, _⟩ => show win0_1.index t (1 : Fin 2) * 128 + 1 * q.val = q.val; omega
theorem emb2 (t : Fin cfg0.N) (j : S4096x128.Idx) : ((cfg0.win 2).blk t).view.emb j = j := by
  obtain ⟨e0, e1⟩ := idx2 t
  funext a; apply Fin.ext
  match a with
  | ⟨0, _⟩ => show win0_2.index t (0 : Fin 2) * 4096 + 1 * (j 0).val = (j 0).val; omega
  | ⟨1, _⟩ => show win0_2.index t (1 : Fin 2) * 128 + 1 * (j 1).val = (j 1).val; omega

theorem iblk0_at (c : Dev nD) (t : Fin cfg0.N) (k : Fin 16) (n : Fin 1024) :
    iblk m c 0 t (ix2 k n : S16x1024.Idx)
      = V m c main_v8 (ix2 k ⟨t.val * 1024 + n.val, by have := lt4 t; omega⟩ : S16x4096.Idx) := by
  show V m c main_v8 (((cfg0.win 0).blk t).view.emb (ix2 k n : S16x1024.Idx)) = _
  rw [emb0]
theorem iblk1_at (c : Dev nD) (t : Fin cfg0.N) (n : Fin 1024) (q : Fin 128) :
    iblk m c 1 t (ix2 n q : S1024x128.Idx)
      = V m c main_v9 (ix2 ⟨t.val * 1024 + n.val, by have := lt4 t; omega⟩ q : S4096x128.Idx) := by
  show V m c main_v9 (((cfg0.win 1).blk t).view.emb (ix2 n q : S1024x128.Idx)) = _
  rw [emb1]

/-- The last point. -/
theorem three : 3 < cfg0.N := by rw [show cfg0.N = 4 from N_0]; decide

theorem flushed2 (c : Dev nD) (t : Fin cfg0.N) (ht : (cfg0.win 2).flush t = true) :
    (dats m 0 c).flushed 2 t = ((cfg0.win 2).blk t).view.read (Elt F) (chain m c 3 three) := by
  have h3 : t = ⟨3, three⟩ := by
    have := (flush0_2 t).mp ht
    have := lt4 t
    exact Fin.ext (by show t.val = 3; omega)
  subst h3
  show (cfg0.win 2).cut (grid0.coords ⟨3, three⟩) ((dats m 0 c).after 2 ⟨3, three⟩) = _
  rw [after0_2, outsAt_eq]
  funext j
  show chain m c 3 three j = chain m c 3 three (((cfg0.win 2).blk ⟨3, three⟩).view.emb j)
  rw [emb2]

theorem covered2 (i : S4096x128.Idx) :
    ∃ t : Fin cfg0.N, (cfg0.win 2).flush t = true ∧ i ∈ ((cfg0.win 2).blk t).view.set :=
  ⟨⟨3, three⟩, (flush0_2 _).mpr rfl, by
    have h := ((cfg0.win 2).blk (⟨3, three⟩ : Fin cfg0.N)).view.emb_mem_set i; rwa [emb2] at h⟩

/-- The region's array after the run. -/
theorem final2 (c : Dev nD) : (dats m 0 c).arrAt 2 cfg0.N = chain m c 3 three :=
  (dats m 0 c).arrAt_eq_of_cover 2 (chain m c 3 three) (fun t ht => flushed2 m c t ht) covered2

/-- The result: the first 103 channels, the pixels in rows of 64. -/
def result (c : Dev nD) : Vec F S64x64x103 .f32 :=
  shapeCast S64x64x103 (extractStridedSlice S4096x103 ![0, 0] (chain m c 3 three) slices_S4096x128_S4096x103_0_0)
    shapeCasts_S4096x103_S64x64x103

theorem tail_result (c : Dev nD) :
    Pipeline.afterTail₀ cfgs (dats m) 0 (V0 m) [hostOps1] c main_v12 = result m c := by
  unfold Pipeline.afterTail₀
  have e : Pipeline.withArrays (cfgs (0 : Fin 1)).spec c (V0 m c) (fun w => (dats m 0 c).arrAt w (cfgs (0 : Fin 1)).N)
      (Proc.devRef .tc main_v10) = chain m c 3 three :=
    (Pipeline.withArrays_arr (cfgs (0 : Fin 1)).spec winFacts0.arr_inj c (V0 m c) _ 2).trans (final2 m c)
  dsimp only [hostOps1, List.flatten_cons, List.flatten_nil, List.append_nil, List.cons_append, List.nil_append]
  after_results
  rw [e]
  rfl

variable (ρ : Dev nD → PrngReg)

/-- The run with its result at its function of the arguments. -/
theorem run : θ_run defs (onTc (τ := τ) (main (F := F))) ⟨m, fun _ => 0, ρ⟩ (fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).2 main_v12 (Pipeline.mem_restRefs_of main_v12 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Block

end
-- ==== Proof.Gauss.lean ====
/- One gaussian in real numbers: its envelope, its two cosines and the weight it has at a pixel; the values of the
   constants that the two programs write as patterns. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Gauss

open Idealize.ShloMosaic

/-! ### Constants -/

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_c0 : Ideal.ofBits .f32 0x3F7FFD50#32 = ((1048533 / 1048576 : ℝ) : EReal) := by
  simp [Ideal.ofBits, Ideal.ieee, -EReal.coe_mul]; norm_num
theorem ofBits_c1 : Ideal.ofBits .f32 0x419DD8F8#32 = ((1293087 / 65536 : ℝ) : EReal) := by
  simp [Ideal.ofBits, Ideal.ieee, -EReal.coe_mul]; norm_num
theorem ofBits_neg_c1 : Ideal.ofBits .f32 0xC19DD8F8#32 = ((-(1293087 / 65536) : ℝ) : EReal) := by
  simp [Ideal.ofBits, Ideal.ieee, -EReal.coe_mul]; norm_num
theorem ofBits_c2 : Ideal.ofBits .f32 0x428157C7#32 = ((8476615 / 131072 : ℝ) : EReal) := by
  simp [Ideal.ofBits, Ideal.ieee, -EReal.coe_mul]; norm_num
theorem ofBits_c3 : Ideal.ofBits .f32 0x42A4C814#32 = ((2699781 / 32768 : ℝ) : EReal) := by
  simp [Ideal.ofBits, Ideal.ieee, -EReal.coe_mul]; norm_num
theorem ofBits_neg_c3 : Ideal.ofBits .f32 0xC2A4C814#32 = ((-(2699781 / 32768) : ℝ) : EReal) := by
  simp [Ideal.ofBits, Ideal.ieee, -EReal.coe_mul]; norm_num
theorem ofBits_c4 : Ideal.ofBits .f32 0x42367BE4#32 = ((2989817 / 65536 : ℝ) : EReal) := by
  simp [Ideal.ofBits, Ideal.ieee, -EReal.coe_mul]; norm_num

/-! ### The polynomial -/

/-- What is left of `t` turns after the nearest whole number of turns is taken away, a tie going to the even one. -/
def part (t : ℝ) : ℝ := t - (Ideal.roundHalfEven t : ℝ)

/-- The polynomial in the square of a part of a turn. -/
def poly (v : ℝ) : ℝ :=
  1048533 / 1048576 - 1293087 / 65536 * v + 8476615 / 131072 * v ^ 2 - 2699781 / 32768 * v ^ 3 + 2989817 / 65536 * v ^ 4

/-- The cosine of `t` turns, by the polynomial. -/
def polyTurns (t : ℝ) : ℝ := poly (part t * part t)

/-! ### A gaussian -/

/-- The numbers of one gaussian: centre, Cholesky factor, two frequencies, two weights. -/
structure Gau where
  X : ℝ
  Y : ℝ
  L0 : ℝ
  l1 : ℝ
  L2 : ℝ
  ax : ℝ
  ay : ℝ
  bx : ℝ
  bY : ℝ
  w0 : ℝ
  w1 : ℝ

/-- The exponent of the envelope. -/
def Gau.sigma (g : Gau) (x y : ℝ) : ℝ :=
  1 / 2 * (((x - g.X) / g.L0) ^ 2 + ((y - g.Y - g.l1 * ((x - g.X) / g.L0)) / g.L2) ^ 2)

theorem Gau.sigma_nonneg (g : Gau) (x y : ℝ) : 0 ≤ g.sigma x y := by unfold sigma; positivity

/-- The turns of the two waves. -/
def Gau.ta (g : Gau) (x y : ℝ) : ℝ := (x - g.X) * g.ax + (y - g.Y) * g.ay
def Gau.tb (g : Gau) (x y : ℝ) : ℝ := (x - g.X) * g.bx + (y - g.Y) * g.bY

/-- The weight of the gaussian at a pixel, `C` in place of the cosine of a number of turns. -/
def Gau.weight (g : Gau) (C : ℝ → ℝ) (x y : ℝ) : ℝ :=
  Real.exp (-g.sigma x y) * (g.w0 * C (g.ta x y) + g.w1 * C (g.tb x y))

/-- The centre's coordinate, the frequency and the weight of an argument. -/
def pos (a : EReal) : ℝ := 1 / 2 * ((Ideal.tanh a).toReal + 1) * 64
def freq (a : EReal) : ℝ := (Ideal.exp a).toReal
def wgt (a : EReal) : ℝ := (Ideal.logistic a).toReal

theorem tanh_real (a : EReal) : Ideal.tanh a = ((Ideal.tanh a).toReal : EReal) := by
  induction a using EReal.rec with
  | bot => simp
  | top => simp
  | coe r => simp
theorem exp_real {a : EReal} (h : a < ⊤) : Ideal.exp a = (freq a : EReal) := by
  unfold freq
  induction a using EReal.rec with
  | bot => simp
  | top => simp at h
  | coe r => simp
theorem logistic_real (a : EReal) : Ideal.logistic a = (wgt a : EReal) := by
  unfold wgt
  induction a using EReal.rec with
  | bot => simp
  | top => simp
  | coe r => rw [Ideal.logistic_coe, EReal.toReal_coe]
theorem wgt_nonneg (a : EReal) : 0 ≤ wgt a := by
  unfold wgt
  induction a using EReal.rec with
  | bot => simp
  | top => simp
  | coe r => rw [Ideal.logistic_coe, EReal.toReal_coe]; positivity

/-- The gaussian of eleven arguments: two of the centre, three of the factor, four of the frequencies, two weights. -/
def Gau.of (c : Fin 11 → EReal) : Gau where
  X := pos (c 0)
  Y := pos (c 1)
  L0 := (c 2).toReal + 1 / 2
  l1 := (c 3).toReal
  L2 := (c 4).toReal + 1 / 2
  ax := freq (c 5)
  ay := freq (c 6)
  bx := freq (c 7)
  bY := freq (c 8)
  w0 := wgt (c 9)
  w1 := wgt (c 10)

/-- The arguments for which the gaussian is defined: a finite factor that can be inverted, frequencies whose
    logarithms are not the top. -/
structure Ok (c : Fin 11 → EReal) : Prop where
  l0 : c 2 = ((c 2).toReal : EReal)
  l1 : c 3 = ((c 3).toReal : EReal)
  l2 : c 4 = ((c 4).toReal : EReal)
  n0 : (Gau.of c).L0 ≠ 0
  n2 : (Gau.of c).L2 ≠ 0
  ax : c 5 < ⊤
  ay : c 6 < ⊤
  bx : c 7 < ⊤
  bY : c 8 < ⊤

/-! ### The image -/

/-- The centre of pixel `p`, row by row. -/
def pxx (p : Fin 4096) : ℝ := ((p.val % 64 : ℕ) : ℝ) + 1 / 2
def pxy (p : Fin 4096) : ℝ := ((p.val / 64 : ℕ) : ℝ) + 1 / 2

/-- The eleven arguments of gaussian `n`. -/
def gcol (a0 : Vec Ideal ⟨2, ![4096, 2]⟩ .f32) (a1 : Vec Ideal ⟨2, ![4096, 3]⟩ .f32) (a3 : Vec Ideal ⟨2, ![8192, 2]⟩ .f32)
    (a4 : Vec Ideal ⟨2, ![8192, 1]⟩ .f32) (n : Fin 4096) : Fin 11 → EReal :=
  ![a0 (ix2 n 0), a0 (ix2 n 1), a1 (ix2 n 0), a1 (ix2 n 1), a1 (ix2 n 2),
    a3 (ix2 ⟨n.val * 2, by omega⟩ 0), a3 (ix2 ⟨n.val * 2, by omega⟩ 1),
    a3 (ix2 ⟨n.val * 2 + 1, by omega⟩ 0), a3 (ix2 ⟨n.val * 2 + 1, by omega⟩ 1),
    a4 (ix2 ⟨n.val * 2, by omega⟩ 0), a4 (ix2 ⟨n.val * 2 + 1, by omega⟩ 0)]

/-- The softplus of a feature. -/
def soft (x : EReal) : EReal := max x 0 + Ideal.log1p (Ideal.exp (-(max x (-x))))

/-- The image: at a pixel and a channel the sum over the gaussians of weight times softplus. -/
def image (C : ℝ → ℝ) (a0 : Vec Ideal ⟨2, ![4096, 2]⟩ .f32) (a1 : Vec Ideal ⟨2, ![4096, 3]⟩ .f32)
    (a2 : Vec Ideal ⟨2, ![4096, 103]⟩ .f32) (a3 : Vec Ideal ⟨2, ![8192, 2]⟩ .f32) (a4 : Vec Ideal ⟨2, ![8192, 1]⟩ .f32)
    (p : Fin 4096) (q : Fin 103) : EReal :=
  ∑ n, ((Gau.of (gcol a0 a1 a3 a4 n)).weight C (pxx p) (pxy p) : EReal) * soft (a2 (ix2 n q))

/-- A number in front of a square root's inverse: the exponent to base two. -/
theorem exp2_sigma (g : Gau) (x y : ℝ) :
    Real.rpow 2 (-2 * ((Real.sqrt (2 * Real.log 2))⁻¹) ^ 2 * g.sigma x y) = Real.exp (-g.sigma x y) := by
  have hl : 0 < Real.log 2 := Real.log_pos (by norm_num)
  have hs : (Real.sqrt (2 * Real.log 2)) ^ 2 = 2 * Real.log 2 := Real.sq_sqrt (by positivity)
  show (2 : ℝ) ^ (_ : ℝ) = _
  rw [Real.rpow_def_of_pos (by norm_num), inv_pow, hs]
  congr 1
  field_simp

end Cert.Gauss

end
-- ==== Proof.Pixel.lean ====
/- The pixel that a row of the basis belongs to, and the eight monomials of its coordinates. -/
module

public import proofs.«01_k».proof.Proof.Block
public import proofs.«01_k».proof.Proof.Gauss
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem Cert.Gauss

theorem col_word : ∀ p : Fin 4096, (Scalar.select
          (IntOp.andi
            (IntOp.xori
              (IntOp.cmpi CmpIPredicate.slt
                (IntOp.remsi ArithUnit.vector (BitVec.ofNat 32 ↑p)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 ↑p)
                (Scalar.select (Scalar.cmpi CmpIPredicate.eq 64#32 0#32) 1#32 64#32))
              0#32))
          (IntOp.addi
            (IntOp.remsi ArithUnit.vector (BitVec.ofNat 32 ↑p)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 ↑p)
            (Scalar.select (Scalar.cmpi CmpIPredicate.eq 64#32 0#32) 1#32 64#32))).toInt = ((p.val % 64 : ℕ) : ℤ) := by
  decide +kernel

theorem row_word : ∀ p : Fin 4096, (Scalar.select
        (IntOp.andi
          (IntOp.cmpi CmpIPredicate.ne
            (IntOp.subi (BitVec.setWidth 32 (IntOp.cmpi CmpIPredicate.sgt (BitVec.ofNat 32 ↑p) 0#32))
              (BitVec.setWidth 32 (IntOp.cmpi CmpIPredicate.slt (BitVec.ofNat 32 ↑p) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑p) 64#32) 0#32))
        (IntOp.subi (IntOp.divsi ArithUnit.vector (BitVec.ofNat 32 ↑p) 64#32) 1#32)
        (IntOp.divsi ArithUnit.vector (BitVec.ofNat 32 ↑p) 64#32)).toInt = ((p.val / 64 : ℕ) : ℤ) := by
  decide +kernel

theorem FloatOps_sitofp (b : BitVec 32) : FloatOps.sitofp (F := Ideal) .f32 b = ((b.toInt : ℝ) : EReal) := rfl

theorem pxx_at (p : Fin 4096) : k0_pay3 (F := Ideal) (ix2 p 0) = (pxx p : EReal) := by
  pointwise [k0_pay3]
  rw [FloatOps_sitofp, col_word p, ofBits_half, pxx, EReal.coe_add, Int.cast_natCast]
theorem pxy_at (p : Fin 4096) : k0_pay4 (F := Ideal) (ix2 p 0) = ((pxy p - 1 / 2 : ℝ) : EReal) := by
  pointwise [k0_pay4]
  rw [FloatOps_sitofp, row_word p, pxy, add_sub_cancel_right, Int.cast_natCast]

/-- The monomials of a pixel. -/
def mon (p : Fin 4096) : Fin 8 → ℝ := ![pxx p * pxx p, pxy p * pxy p, pxx p * pxy p, pxx p, pxy p, 1, 0, 0]

/-- Five copies of the monomials, the low parts of the last two nothing over the reals. -/
def bas (p : Fin 4096) (k : Fin 40) : ℝ := if k.val < 24 then mon p ⟨k.val % 8, by omega⟩ else 0

set_option maxHeartbeats 4000000 in
theorem basis_at (p : Fin 4096) (k : Fin 40) : basis (F := Ideal) (ix2 p k) = (bas p k : EReal) := by
  have hx := pxx_at p
  have hy := pxy_at p
  unfold basis
  pointwise [k0_pay5]
  rw [ofBits_half]
  have h0 : ∀ a : Fin 1, a = 0 := fun a => Fin.eq_zero a
  simp only [h0, hx, hy, ← EReal.coe_add, sub_add_cancel, ← EReal.coe_mul, ← EReal.coe_sub, ← EReal.coe_one, sub_self]
  fin_vals k with hk
  all_goals simp [hk, bas, mon]
  all_goals simp only [← EReal.coe_mul, ← EReal.coe_one, ← EReal.coe_sub, sub_self, EReal.coe_zero]

/-- Five copies of a column of coefficients: the middle and low parts are nothing over the reals. -/
def cof (c : Fin 8 → ℝ) (k : Fin 40) : ℝ := if k.val < 8 ∨ 24 ≤ k.val ∧ k.val < 32 then c ⟨k.val % 8, by omega⟩ else 0

set_option maxHeartbeats 4000000 in
theorem parts_at (x : Vec Ideal S16x1024 .f32) (q : Fin 3072) (c : Fin 8 → ℝ)
    (hc : ∀ k, coefs (F := Ideal) x (ix2 k q) = (c k : EReal)) (k : Fin 40) :
    parts (F := Ideal) x (ix2 k q) = (cof c k : EReal) := by
  unfold parts
  pointwise [k0_pay17]
  simp only [hc, ← EReal.coe_sub, sub_self, EReal.coe_zero]
  fin_vals k with hk
  all_goals simp [hk, cof]

theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

/-- A form at a pixel: over the reals only the first of the five products is left. -/
theorem form_at (p : Fin 4096) (c : Fin 8 → ℝ) : ∑ k, bas p k * cof c k = ∑ t, mon p t * c t := by
  rw [Fin.sum_univ_tiles 5 8 rfl]
  simp [Fin.sum_univ_succ, bas, cof]

end Cert.KernelIdeal.Block

end
-- ==== Proof.Elem.lean ====
/- The kernel's numbers for one gaussian of a block: its coefficients, its three forms at a pixel, its weight there. -/
module

public import proofs.«01_k».proof.Proof.Pixel

@[expose] public section

set_option maxRecDepth 16384

noncomputable section

namespace Cert.KernelIdeal.Block

open Cert.KernelIdeal Cert.KernelIdeal.Gen Idealize.ShloMosaic Idealize.ShloMosaic.TcCoe Idealize.SL.Sem Cert.Gauss

/-- The eleven arguments of gaussian `n` of a block of parameters. -/
def col (x : Vec Ideal S16x1024 .f32) (n : Fin 1024) (k : Fin 11) : EReal := x (ix2 ⟨k.val, by omega⟩ n)

/-- The scale of the factor that turns the exponential into a power of two. -/
def kap : ℝ := (Real.sqrt (2 * Real.log 2))⁻¹

theorem named_kap (b : BitVec 32) : Named.named (F := Ideal) (φ := .f32) κ "sqrt_half_log2e" b = (kap : EReal) :=
  IdealRules.named_const.ideal_named_scalar _ _ _ _ rfl

/-- `1 / l0`, `-l1 / (l0 l2)` and `1 / l2`, scaled. -/
def A1 (g : Gau) : ℝ := kap * (1 / g.L0)
def B2 (g : Gau) : ℝ := kap * (1 / g.L2)
def B1 (g : Gau) : ℝ := -(g.l1 * A1 g) * (1 / g.L2)

section
variable {x : Vec Ideal S16x1024 .f32} {n : Fin 1024}

theorem gx_at : k0_pay7 (F := Ideal) x (ix2 0 n) = ((Gau.of (col x n)).X : EReal) := by
  pointwise [k0_pay7, k0_pay6]
  rw [ofBits_half, ofBits_64, tanh_real, ← EReal.coe_one, ← EReal.coe_add, ← EReal.coe_mul, ← EReal.coe_mul]
  rfl
theorem gy_at : k0_pay8 (F := Ideal) x (ix2 0 n) = ((Gau.of (col x n)).Y : EReal) := by
  pointwise [k0_pay8, k0_pay6]
  rw [ofBits_half, ofBits_64, tanh_real, ← EReal.coe_one, ← EReal.coe_add, ← EReal.coe_mul, ← EReal.coe_mul]
  rfl
theorem l0_at (h : Ok (col x n)) : x (ix2 2 n) + ((1 / 2 : ℝ) : EReal) = ((Gau.of (col x n)).L0 : EReal) := by
  rw [show x (ix2 2 n) = _ from h.l0, ← EReal.coe_add]; rfl
theorem l2_at (h : Ok (col x n)) : x (ix2 4 n) + ((1 / 2 : ℝ) : EReal) = ((Gau.of (col x n)).L2 : EReal) := by
  rw [show x (ix2 4 n) = _ from h.l2, ← EReal.coe_add]; rfl
theorem a1_at (h : Ok (col x n)) : k0_pay10 (F := Ideal) x (ix2 0 n) = (A1 (Gau.of (col x n)) : EReal) := by
  pointwise [k0_pay10, k0_pay6]
  rw [ofBits_half, l0_at h, named_kap, Ideal.div_coe h.n0, ← EReal.coe_mul]; rfl
theorem b2_at (h : Ok (col x n)) : k0_pay11 (F := Ideal) x (ix2 0 n) = (B2 (Gau.of (col x n)) : EReal) := by
  pointwise [k0_pay11, k0_pay9, k0_pay6]
  rw [ofBits_half, l2_at h, named_kap, Ideal.div_coe h.n2, ← EReal.coe_mul]; rfl
theorem b1_at (h : Ok (col x n)) : k0_pay12 (F := Ideal) x (ix2 0 n) = (B1 (Gau.of (col x n)) : EReal) := by
  pointwise [k0_pay12, k0_pay9, k0_pay6]
  rw [ofBits_half, l2_at h, a1_at h, show x (ix2 3 n) = _ from h.l1, Ideal.div_coe h.n2, one_mul, ← EReal.coe_mul,
    zero_sub, ← EReal.coe_neg, ← EReal.coe_mul]
  rfl
theorem ax_at (h : Ok (col x n)) : k0_pay13 (F := Ideal) x (ix2 0 n) = ((Gau.of (col x n)).ax : EReal) := by
  pointwise [k0_pay13, k0_pay6]
  exact exp_real h.ax
theorem ay_at (h : Ok (col x n)) : k0_pay14 (F := Ideal) x (ix2 0 n) = ((Gau.of (col x n)).ay : EReal) := by
  pointwise [k0_pay14, k0_pay6]
  exact exp_real h.ay
theorem bx_at (h : Ok (col x n)) : Ideal.exp (x (ix2 7 n)) = ((Gau.of (col x n)).bx : EReal) := exp_real h.bx
theorem by_at (h : Ok (col x n)) : Ideal.exp (x (ix2 8 n)) = ((Gau.of (col x n)).bY : EReal) := exp_real h.bY
theorem w0_at : wrow0 (F := Ideal) x (ix2 0 n) = ((Gau.of (col x n)).w0 : EReal) := by
  pointwise [wrow0, k0_pay18, k0_pay6]
  exact logistic_real _
theorem w1_at : wrow1 (F := Ideal) x (ix2 0 n) = ((Gau.of (col x n)).w1 : EReal) := by
  pointwise [wrow1, k0_pay18, k0_pay6]
  exact logistic_real _

/-- The coefficients of the quadratic form and of a phase, in the order of the monomials. -/
def quad (g : Gau) : Fin 8 → ℝ :=
  ![-(A1 g * A1 g + B1 g * B1 g), -(B2 g * B2 g), -2 * (B1 g * B2 g),
    2 * (A1 g * A1 g * g.X + B1 g * (B1 g * g.X + B2 g * g.Y)), 2 * (B2 g * (B1 g * g.X + B2 g * g.Y)),
    -(A1 g * A1 g * (g.X * g.X) + (B1 g * g.X + B2 g * g.Y) * (B1 g * g.X + B2 g * g.Y)), 0, 0]
def wave (g : Gau) (a b : ℝ) : Fin 8 → ℝ := ![0, 0, 0, a, b, -(a * g.X + b * g.Y), 0, 0]

theorem quad_at (h : Ok (col x n)) (k : Fin 8) :
    coefs (F := Ideal) x (ix2 k ⟨n.val, by omega⟩) = (quad (Gau.of (col x n)) k : EReal) := by
  fin_cases k
  all_goals pointwise [coefs, k0_pay15, k0_pay6]
  all_goals try simp only [gx_at, gy_at, a1_at h, b1_at h, b2_at h, ofBits_two, ofBits_neg_two, ← EReal.coe_mul, ← EReal.coe_add,
    zero_sub, ← EReal.coe_neg]
  all_goals rfl

theorem wave0_at (h : Ok (col x n)) (k : Fin 8) :
    coefs (F := Ideal) x (ix2 k ⟨1024 + n.val, by omega⟩)
      = (wave (Gau.of (col x n)) (Gau.of (col x n)).ax (Gau.of (col x n)).ay k : EReal) := by
  have e0 : ¬ (1024 + n.val < 1024) := by omega
  have e1 : 1024 + n.val - 1024 = n.val := by omega
  have e2 : n.val < 1024 := n.isLt
  fin_cases k
  all_goals pointwise [coefs, k0_pay15, k0_pay6]
  all_goals try simp only [e0, e1, e2, dite_true, dite_false, Fin.eta, gx_at, gy_at, ax_at h, ay_at h, ← EReal.coe_mul, ← EReal.coe_add,
    zero_sub, ← EReal.coe_neg]
  all_goals rfl

theorem wave1_at (h : Ok (col x n)) (k : Fin 8) :
    coefs (F := Ideal) x (ix2 k ⟨2048 + n.val, by omega⟩)
      = (wave (Gau.of (col x n)) (Gau.of (col x n)).bx (Gau.of (col x n)).bY k : EReal) := by
  have e0 : ¬ (2048 + n.val < 1024) := by omega
  have e1 : ¬ (2048 + n.val - 1024 < 1024) := by omega
  have e2 : 2048 + n.val - 1024 - 1024 = n.val := by omega
  fin_cases k
  all_goals pointwise [coefs, k0_pay15, k0_pay6]
  all_goals try simp only [e0, e1, e2, dite_true, dite_false, Fin.eta, gx_at, gy_at, bx_at h, by_at h, ← EReal.coe_mul, ← EReal.coe_add,
    zero_sub, ← EReal.coe_neg]
  all_goals rfl

end

/-- The quadratic form is the exponent, scaled. -/
theorem quad_sum (g : Gau) (h0 : g.L0 ≠ 0) (h2 : g.L2 ≠ 0) (p : Fin 4096) :
    ∑ t, mon p t * quad g t = -2 * kap ^ 2 * g.sigma (pxx p) (pxy p) := by
  simp only [Fin.sum_univ_eight, mon, quad, Gau.sigma, A1, B1, B2]
  simp
  field_simp
  ring

/-- A phase is the turns of its wave. -/
theorem wave_sum (g : Gau) (a b : ℝ) (p : Fin 4096) :
    ∑ t, mon p t * wave g a b t = (pxx p - g.X) * a + (pxy p - g.Y) * b := by
  simp only [Fin.sum_univ_eight, mon, wave]
  simp
  ring

section
variable {x : Vec Ideal S16x1024 .f32} {n : Fin 1024}

theorem sum_at (p : Fin 4096) (q : Fin 3072) (c : Fin 8 → ℝ) (hc : ∀ k, coefs (F := Ideal) x (ix2 k q) = (c k : EReal)) :
    ∑ k, basis (F := Ideal) (ix2 p k) * parts (F := Ideal) x (ix2 k q) = ((∑ t, mon p t * c t : ℝ) : EReal) := by
  rw [← form_at, coe_sum]
  exact Finset.sum_congr rfl fun k _ => by rw [basis_at, parts_at x q c hc, ← EReal.coe_mul]

theorem env_at (h : Ok (col x n)) (p : Fin 4096) :
    k0_pay21 (F := Ideal) (basis (F := Ideal)) (parts x) (ix2 p n) = (Real.exp (-(Gau.of (col x n)).sigma (pxx p) (pxy p)) : EReal) := by
  pointwise [k0_pay21, k0_pay20]
  rw [sum_at p _ _ (quad_at h), quad_sum _ h.n0 h.n2]
  show Ideal.exp2 _ = _
  rw [Ideal.exp2_coe, kap, exp2_sigma]
theorem ta_at (h : Ok (col x n)) (p : Fin 4096) :
    k0_pay22 (F := Ideal) (basis (F := Ideal)) (parts x) (ix2 p n) = ((Gau.of (col x n)).ta (pxx p) (pxy p) : EReal) := by
  pointwise [k0_pay22, k0_pay20]
  rw [sum_at p _ _ (wave0_at h), wave_sum]; rfl
theorem tb_at (h : Ok (col x n)) (p : Fin 4096) :
    k0_pay23 (F := Ideal) (basis (F := Ideal)) (parts x) (ix2 p n) = ((Gau.of (col x n)).tb (pxx p) (pxy p) : EReal) := by
  pointwise [k0_pay23, k0_pay20]
  rw [sum_at p _ _ (wave1_at h), wave_sum]; rfl

theorem liftRound_coe (r : ℝ) : Ideal.liftRound Ideal.roundHalfEven (r : EReal) = ((Ideal.roundHalfEven r : ℝ) : EReal) := rfl

/-- The kernel's Horner steps on the weighted coefficients are the weighted polynomial. -/
theorem horner (w t : ℝ) :
    ((((w * (2989817 / 65536) * (part t * part t) + w * -(2699781 / 32768)) * (part t * part t) + w * (8476615 / 131072))
      * (part t * part t) + w * -(1293087 / 65536)) * (part t * part t) + w * (1048533 / 1048576)) = w * polyTurns t := by
  unfold polyTurns poly; ring

/-- A block's contribution to the image at a pixel and a channel. -/
theorem term_at (h : ∀ n, Ok (col x n)) (p : Fin 4096) (q : Fin 128) (f : Vec Ideal S1024x128 .f32) :
    term (F := Ideal) (basis (F := Ideal)) x f (ix2 p q)
      = ∑ n, ((Gau.of (col x n)).weight polyTurns (pxx p) (pxy p) : EReal) * k0_pay19 (F := Ideal) f (ix2 n q) := by
  pointwise [term, k0_pay1, k0_pay25, k0_pay24, k0_pay26, k0_pay27, k0_pay28]
  refine Finset.sum_congr rfl fun n _ => congrArg (· * _) ?_
  rw [env_at (h n), ta_at (h n), tb_at (h n), w0_at, w1_at, ofBits_c0, ofBits_neg_c1, ofBits_c2, ofBits_neg_c3, ofBits_c4]
  simp only [liftRound_coe, ← EReal.coe_sub, ← EReal.coe_mul, ← EReal.coe_add]
  rw [EReal.coe_eq_coe_iff, Gau.weight]
  congr 1
  exact congrArg₂ (· + ·) (horner _ _) (horner _ _)
end

end Cert.KernelIdeal.Block

end
-- ==== Proof.Args.lean ====
/- The packed parameters and padded features read at a gaussian, and the kernel's result at a pixel and a channel: the
   sum over the gaussians of weight times softplus. -/
module

public import proofs.«01_k».proof.Proof.Run
public import proofs.«01_k».proof.Proof.Elem

@[expose] public section

set_option maxRecDepth 16384

noncomputable section

namespace Cert.KernelIdeal.Block

open Cert.KernelIdeal Cert.KernelIdeal.Gen Idealize.ShloMosaic Idealize.ShloMosaic.TcCoe Idealize.SL.Sem Cert.Gauss

theorem packed_at (a0 : Vec Ideal S4096x2 .f32) (a1 : Vec Ideal S4096x3 .f32) (a3 : Vec Ideal S8192x2 .f32)
    (a4 : Vec Ideal S8192x1 .f32) (n : Fin 4096) (k : Fin 11) :
    packed (F := Ideal) a0 a1 a3 a4 (ix2 ⟨k.val, by omega⟩ n) = gcol a0 a1 a3 a4 n k := by
  fin_cases k
  all_goals pointwise [packed]
  all_goals rfl

theorem padded_at (a2 : Vec Ideal S4096x103 .f32) (n : Fin 4096) (q : Fin 103) :
    padded (F := Ideal) a2 (ix2 n ⟨q.val, by omega⟩) = a2 (ix2 n q) := by
  pointwise [padded]

theorem soft_at (f : Vec Ideal S1024x128 .f32) (n : Fin 1024) (k : Fin 128) :
    k0_pay19 (F := Ideal) f (ix2 n k) = soft (f (ix2 n k)) := by
  pointwise [k0_pay19]
  rw [if_neg (fun h => h rfl), zero_sub]
  rfl

variable (m : (ℓ : Loc nD τ sig) → Buf (Elt Ideal) ℓ) (c : Dev nD)

/-- The argument arrays. -/
abbrev arg0 : Vec Ideal S4096x2 .f32 := m ((c : Thread nD τ).loc main_arg0)
abbrev arg1 : Vec Ideal S4096x3 .f32 := m ((c : Thread nD τ).loc main_arg1)
abbrev arg2 : Vec Ideal S4096x103 .f32 := m ((c : Thread nD τ).loc main_arg2)
abbrev arg3 : Vec Ideal S8192x2 .f32 := m ((c : Thread nD τ).loc main_arg3)
abbrev arg4 : Vec Ideal S8192x1 .f32 := m ((c : Thread nD τ).loc main_arg4)

/-- Gaussian `n` of a point's block. -/
abbrev nth (t : Fin cfg0.N) (n : Fin 1024) : Fin 4096 := ⟨t.val * 1024 + n.val, by have := lt4 t; omega⟩

theorem col_at (t : Fin cfg0.N) (n : Fin 1024) :
    col (iblk m c 0 t) n = gcol (arg0 m c) (arg1 m c) (arg3 m c) (arg4 m c) (nth t n) := by
  funext k
  show iblk m c 0 t (ix2 ⟨k.val, _⟩ n : S16x1024.Idx) = _
  rw [iblk0_at, V_packed]
  exact packed_at _ _ _ _ _ _

/-- What one point adds at a pixel and a channel. -/
theorem term_point (h : ∀ n, Ok (gcol (arg0 m c) (arg1 m c) (arg3 m c) (arg4 m c) n)) (t : Fin cfg0.N) (p : Fin 4096)
    (q : Fin 103) :
    term (F := Ideal) (basis (F := Ideal)) (iblk m c 0 t) (iblk m c 1 t) (ix2 p ⟨q.val, by omega⟩)
      = ∑ n, ((Gau.of (gcol (arg0 m c) (arg1 m c) (arg3 m c) (arg4 m c) (nth t n))).weight polyTurns (pxx p) (pxy p) : EReal)
          * soft (arg2 m c (ix2 (nth t n) q)) := by
  rw [term_at (fun n => by rw [col_at]; exact h _)]
  refine Finset.sum_congr rfl fun n _ => ?_
  rw [col_at, soft_at]
  refine congrArg (_ * ·) (congrArg soft ?_)
  refine (iblk1_at m c t n ⟨q.val, by omega⟩).trans ?_
  rw [V_padded]
  exact padded_at _ _ _

theorem chain_at (h : ∀ n, Ok (gcol (arg0 m c) (arg1 m c) (arg3 m c) (arg4 m c) n)) (p : Fin 4096) (q : Fin 103) :
    chain (F := Ideal) m c 3 three (ix2 p ⟨q.val, by omega⟩)
      = image polyTurns (arg0 m c) (arg1 m c) (arg2 m c) (arg3 m c) (arg4 m c) p q := by
  have e : ∀ n (hn : n + 1 < cfg0.N) j, chain (F := Ideal) m c (n + 1) hn j
      = chain (F := Ideal) m c n (Nat.lt_of_succ_lt hn) j
        + term (F := Ideal) (basis (F := Ideal)) (iblk m c 0 ⟨n + 1, hn⟩) (iblk m c 1 ⟨n + 1, hn⟩) j := fun _ _ _ => rfl
  have e0 : ∀ h j, chain (F := Ideal) m c 0 h j
      = term (F := Ideal) (basis (F := Ideal)) (iblk m c 0 ⟨0, h⟩) (iblk m c 1 ⟨0, h⟩) j := fun _ _ => rfl
  rw [e, e, e, e0, term_point m c h, term_point m c h, term_point m c h, term_point m c h, image,
    Fin.sum_univ_tiles 4 1024 rfl, Fin.sum_univ_four]
  rfl

/-- The kernel's result. -/
theorem result_at (h : ∀ n, Ok (gcol (arg0 m c) (arg1 m c) (arg3 m c) (arg4 m c) n)) (y x : Fin 64) (q : Fin 103) :
    result (F := Ideal) m c (ix3 y x q)
      = image polyTurns (arg0 m c) (arg1 m c) (arg2 m c) (arg3 m c) (arg4 m c) ⟨y.val * 64 + x.val, by omega⟩ q := by
  pointwise [result]
  exact chain_at m c h _ q

end Cert.KernelIdeal.Block

end
-- ==== Proof.Terms.lean ====
/- What both of the plain programs compute before a cosine is taken, read at an index: the centre, the offsets from it, the
   envelope, the turns, the weights and the softplus, as the real numbers of a gaussian. -/
module

public import proofs.«01_k».proof.Proof.Gauss
public import proofs.«01_k».proof.Proof.Gen.ReferenceIdeal.Read

@[expose] public section

noncomputable section

namespace Cert.Gauss

open Idealize.ShloMosaic

/-- The least determinant that the plain programs do not raise. -/
def eps : ℝ := 9223372 / 9223372036854775808

theorem ofBits_eps : Ideal.ofBits .f32 0x2B8CBCCC#32 = ((eps : ℝ) : EReal) := by
  simp [Ideal.ofBits, Ideal.ieee, eps, -EReal.coe_mul]; norm_num

theorem eps_pos : 0 < eps := by unfold eps; norm_num

/-- A pixel's number from its row and its column. -/
abbrev pix (y x : Fin 64) : Fin 4096 := ⟨y.val * 64 + x.val, by omega⟩

theorem pxx_pix (y x : Fin 64) : pxx (pix y x) = (x.val : ℝ) + 1 / 2 := by
  have : (y.val * 64 + x.val) % 64 = x.val := by omega
  unfold pxx; rw [this]
theorem pxy_pix (y x : Fin 64) : pxy (pix y x) = (y.val : ℝ) + 1 / 2 := by
  have : (y.val * 64 + x.val) / 64 = y.val := by omega
  unfold pxy; rw [this]

theorem small_word : ∀ x : Fin 64, (BitVec.ofNat 32 x.val).toInt = (x.val : ℤ) := by decide

theorem sitofp_small (x : Fin 64) :
    FloatOps.sitofp (F := Ideal) .f32 (BitVec.ofNat 32 x.val) = (((x.val : ℕ) : ℝ) : EReal) := by
  show (((BitVec.ofNat 32 x.val).toInt : ℝ) : EReal) = _
  rw [small_word, Int.cast_natCast]

end Cert.Gauss

namespace Cert.ReferenceIdeal.Image

open Cert.ReferenceIdeal Cert.ReferenceIdeal.Gen Cert.ReferenceIdeal.Read Idealize.ShloMosaic Idealize.ShloMosaic.TcCoe
  Idealize.ShloMosaic.StableHlo Cert.Gauss

variable (a0 : Vec Ideal S4096x2 .f32) (a1 : Vec Ideal S4096x3 .f32) (a2 : Vec Ideal S4096x103 .f32)
  (a3 : Vec Ideal S8192x2 .f32) (a4 : Vec Ideal S8192x1 .f32)

/-! ### The centre and the offsets -/

theorem centre_at (n : Fin 4096) (k : Fin 2) : val_main_v7 (F := Ideal) a0 (ix2 n k) = (pos (a0 (ix2 n k)) : EReal) := by
  pointwise [val_main_v7, val_main_v6, val_main_v5, val_main_cst, val_main_v4, val_main_v3, val_main_cst_1, val_main_v2,
    val_main_v1, val_main_cst_0, val_main_v0]
  rw [tanh_real, ofBits_half, ofBits_64, pos, EReal.coe_mul, EReal.coe_mul, EReal.coe_add, EReal.coe_one]

theorem dx_at (y x : Fin 64) (n : Fin 4096) :
    val_main_v66 (F := Ideal) a0 (ix3 y x n) = ((pxx (pix y x) - (Gau.of (gcol a0 a1 a3 a4 n)).X : ℝ) : EReal) := by
  pointwise [val_main_v66, val_main_v65, val_main_v64, val_main_v63, val_main_v62, val_main_v61, val_main_v60, val_main_v59,
    val_main_v53, val_main_v52, val_main_v51, val_main_v50, val_main_cst_9]
  rw [sitofp_small, ofBits_half, centre_at, ← EReal.coe_add, ← EReal.coe_sub, pxx_pix]
  rfl

theorem dy_at (y x : Fin 64) (n : Fin 4096) :
    val_main_v73 (F := Ideal) a0 (ix3 y x n) = ((pxy (pix y x) - (Gau.of (gcol a0 a1 a3 a4 n)).Y : ℝ) : EReal) := by
  pointwise [val_main_v73, val_main_v72, val_main_v71, val_main_v70, val_main_v69, val_main_v68, val_main_v67, val_main_v58,
    val_main_v57, val_main_v56, val_main_v55, val_main_v54, val_main_cst_10]
  rw [sitofp_small, ofBits_half, centre_at, ← EReal.coe_add, ← EReal.coe_sub, pxy_pix]
  rfl

/-! ### The envelope -/

section
variable {a0 a1 a3 a4}
variable {n : Fin 4096} (h : Ok (gcol a0 a1 a3 a4 n))
include h

theorem l0_at : val_main_v11 (F := Ideal) a1 (ix1 n) = ((Gau.of (gcol a0 a1 a3 a4 n)).L0 : EReal) := by
  pointwise [val_main_v11, val_main_v10, val_main_v9, val_main_v8, val_main_cst_2]
  have e : a1 (ix2 n 0) = ((a1 (ix2 n 0)).toReal : EReal) := h.l0
  rw [e, ofBits_half, ← EReal.coe_add]
  rfl
theorem l1_at : val_main_v15 (F := Ideal) a1 (ix1 n) = ((Gau.of (gcol a0 a1 a3 a4 n)).l1 : EReal) := by
  pointwise [val_main_v15, val_main_v14, val_main_v13, val_main_v12, val_main_cst_3]
  exact h.l1
theorem l2_at : val_main_v19 (F := Ideal) a1 (ix1 n) = ((Gau.of (gcol a0 a1 a3 a4 n)).L2 : EReal) := by
  pointwise [val_main_v19, val_main_v18, val_main_v17, val_main_v16, val_main_cst_4]
  have e : a1 (ix2 n 2) = ((a1 (ix2 n 2)).toReal : EReal) := h.l2
  rw [e, ofBits_half, ← EReal.coe_add]
  rfl

variable (d : eps ≤ ((Gau.of (gcol a0 a1 a3 a4 n)).L0 * (Gau.of (gcol a0 a1 a3 a4 n)).L2) ^ 2)
include d

/-- The determinant, which is not raised. -/
theorem det_at : val_main_v29 (F := Ideal) a1 (ix1 n)
    = ((((Gau.of (gcol a0 a1 a3 a4 n)).L0 * (Gau.of (gcol a0 a1 a3 a4 n)).L2) ^ 2 : ℝ) : EReal) := by
  pointwise [val_main_v29, val_main_v28, val_main_cst_5, val_main_v27, val_main_v26, val_main_v25, val_main_v24, val_main_v23,
    val_main_v22, val_main_v21, val_main_v20]
  rw [l0_at h, l1_at h, l2_at h, ofBits_eps]
  simp only [← EReal.coe_mul, ← EReal.coe_add, ← EReal.coe_sub]
  rw [max_eq_left (EReal.coe_le_coe_iff.2 (d.trans (le_of_eq (by ring))))]
  exact congrArg _ (by ring)

theorem ca_at : val_main_v30 (F := Ideal) a1 (ix1 n)
    = ((((Gau.of (gcol a0 a1 a3 a4 n)).l1 ^ 2 + (Gau.of (gcol a0 a1 a3 a4 n)).L2 ^ 2)
        * (1 / ((Gau.of (gcol a0 a1 a3 a4 n)).L0 * (Gau.of (gcol a0 a1 a3 a4 n)).L2) ^ 2) : ℝ) : EReal) := by
  pointwise [val_main_v30, val_main_v24, val_main_v23, val_main_v22]
  rw [det_at h d, l1_at h, l2_at h, Ideal.div_coe (eps_pos.trans_le d).ne']
  simp only [← EReal.coe_mul, ← EReal.coe_add]
  exact congrArg _ (by ring)
theorem cb_at : val_main_v32 (F := Ideal) a1 (ix1 n)
    = ((-((Gau.of (gcol a0 a1 a3 a4 n)).L0 * (Gau.of (gcol a0 a1 a3 a4 n)).l1)
        * (1 / ((Gau.of (gcol a0 a1 a3 a4 n)).L0 * (Gau.of (gcol a0 a1 a3 a4 n)).L2) ^ 2) : ℝ) : EReal) := by
  pointwise [val_main_v32, val_main_v31, val_main_v21]
  rw [det_at h d, l0_at h, l1_at h, Ideal.div_coe (eps_pos.trans_le d).ne']
  simp only [← EReal.coe_mul, ← EReal.coe_neg]
theorem cc_at : val_main_v33 (F := Ideal) a1 (ix1 n)
    = (((Gau.of (gcol a0 a1 a3 a4 n)).L0 ^ 2
        * (1 / ((Gau.of (gcol a0 a1 a3 a4 n)).L0 * (Gau.of (gcol a0 a1 a3 a4 n)).L2) ^ 2) : ℝ) : EReal) := by
  pointwise [val_main_v33, val_main_v20]
  rw [det_at h d, l0_at h, Ideal.div_coe (eps_pos.trans_le d).ne']
  simp only [← EReal.coe_mul]
  exact congrArg _ (by ring)

/-- The envelope. The exponent is a sum of squares, so that it is not raised to zero. -/
theorem env_at (y x : Fin 64) : val_main_v93 (F := Ideal) a0 a1 (ix3 y x n)
    = (Real.exp (-(Gau.of (gcol a0 a1 a3 a4 n)).sigma (pxx (pix y x)) (pxy (pix y x))) : EReal) := by
  pointwise [val_main_v93, val_main_v92, val_main_v91, val_main_v90, val_main_cst_12, val_main_v89, val_main_v88, val_main_v87,
    val_main_v86, val_main_v85, val_main_v84, val_main_v83, val_main_cst_11, val_main_v82, val_main_v81, val_main_v80,
    val_main_v79, val_main_v78, val_main_v77, val_main_v76, val_main_v75, val_main_v74]
  rw [ca_at h d, cb_at h d, cc_at h d, dx_at a0 a1 a3 a4, dy_at a0 a1 a3 a4, ofBits_half]
  simp only [← EReal.coe_mul, ← EReal.coe_add, ← EReal.coe_zero]
  have e0 := h.n0
  have e2 := h.n2
  refine (congrArg (fun r : ℝ => Ideal.exp (-max (r : EReal) ((0 : ℝ) : EReal)))
    (?_ : _ = (Gau.of (gcol a0 a1 a3 a4 n)).sigma (pxx (pix y x)) (pxy (pix y x)))).trans ?_
  · unfold Gau.sigma
    field_simp
    ring
  · rw [max_eq_left (EReal.coe_le_coe_iff.2 (Gau.sigma_nonneg _ _ _)), ← EReal.coe_neg, Ideal.exp_coe]

omit d in
/-- The turns of the two waves. -/
theorem turns0_at (y x : Fin 64) : val_main_v108 (F := Ideal) a0 a3 (ix4 y x n 0)
    = ((Gau.of (gcol a0 a1 a3 a4 n)).ta (pxx (pix y x)) (pxy (pix y x)) : EReal) := by
  pointwise [val_main_v108, val_main_v107, val_main_v106, val_main_v105, val_main_v104, val_main_v103, val_main_v102,
    val_main_v101, val_main_v100, val_main_v99, val_main_v98, val_main_v97, val_main_v96, val_main_v95, val_main_v94,
    val_main_v35, val_main_v34]
  rw [dx_at a0 a1 a3 a4, dy_at a0 a1 a3 a4]
  refine (congrArg₂ (fun s t : EReal => _ * s + _ * t) (exp_real h.ax) (exp_real h.ay)).trans ?_
  rw [← EReal.coe_mul, ← EReal.coe_mul, ← EReal.coe_add]
  rfl
omit d in
theorem turns1_at (y x : Fin 64) : val_main_v108 (F := Ideal) a0 a3 (ix4 y x n 1)
    = ((Gau.of (gcol a0 a1 a3 a4 n)).tb (pxx (pix y x)) (pxy (pix y x)) : EReal) := by
  pointwise [val_main_v108, val_main_v107, val_main_v106, val_main_v105, val_main_v104, val_main_v103, val_main_v102,
    val_main_v101, val_main_v100, val_main_v99, val_main_v98, val_main_v97, val_main_v96, val_main_v95, val_main_v94,
    val_main_v35, val_main_v34]
  rw [dx_at a0 a1 a3 a4, dy_at a0 a1 a3 a4]
  refine (congrArg₂ (fun s t : EReal => _ * s + _ * t) (exp_real h.bx) (exp_real h.bY)).trans ?_
  rw [← EReal.coe_mul, ← EReal.coe_mul, ← EReal.coe_add]
  rfl

end

/-! ### The weights and the features -/

theorem wgt_at (n : Fin 4096) (i : Fin 2) :
    val_main_v42 (F := Ideal) a4 (ix2 n i) = (wgt (a4 (ix2 ⟨n.val * 2 + i.val, by omega⟩ 0)) : EReal) := by
  pointwise [val_main_v42, val_main_v41, val_main_v40, val_main_cst_7, val_main_v39, val_main_v38, val_main_cst_6, val_main_v37,
    val_main_v36]
  exact logistic_real _

theorem feat_at (n : Fin 4096) (q : Fin 103) : val_main_v49 (F := Ideal) a2 (ix2 n q) = soft (a2 (ix2 n q)) := by
  pointwise [val_main_v49, val_main_v48, val_main_v47, val_main_v46, val_main_v45, val_main_v44, val_main_v43, val_main_cst_8]
  rfl

/-- The weight of a gaussian from its envelope and two waves. -/
theorem weight_of (C : ℝ → ℝ) (y x : Fin 64) (n : Fin 4096) (h : Ok (gcol a0 a1 a3 a4 n))
    (d : eps ≤ ((Gau.of (gcol a0 a1 a3 a4 n)).L0 * (Gau.of (gcol a0 a1 a3 a4 n)).L2) ^ 2) (f : Fin 2 → EReal)
    (f0 : f 0 = (C ((Gau.of (gcol a0 a1 a3 a4 n)).ta (pxx (pix y x)) (pxy (pix y x))) : EReal))
    (f1 : f 1 = (C ((Gau.of (gcol a0 a1 a3 a4 n)).tb (pxx (pix y x)) (pxy (pix y x))) : EReal)) :
    val_main_v93 (F := Ideal) a0 a1 (ix3 y x n) * ∑ i, val_main_v42 (F := Ideal) a4 (ix2 n i) * f i
      = ((Gau.of (gcol a0 a1 a3 a4 n)).weight C (pxx (pix y x)) (pxy (pix y x)) : EReal) := by
  rw [env_at h d, Fin.sum_univ_two, f0, f1, wgt_at, wgt_at, ← EReal.coe_mul, ← EReal.coe_mul, ← EReal.coe_add, ← EReal.coe_mul]
  rfl

end Cert.ReferenceIdeal.Image

end
-- ==== Proof.Ref.lean ====
/- The reference's image, with the polynomial for each cosine. -/
module

public import proofs.«01_k».proof.Proof.Terms

@[expose] public section

noncomputable section

namespace Cert.ReferenceIdeal.Image

open Cert.ReferenceIdeal Cert.ReferenceIdeal.Gen Cert.ReferenceIdeal.Read Idealize.ShloMosaic Idealize.ShloMosaic.TcCoe
  Idealize.ShloMosaic.StableHlo Cert.Gauss

variable (a0 : Vec Ideal S4096x2 .f32) (a1 : Vec Ideal S4096x3 .f32) (a2 : Vec Ideal S4096x103 .f32)
  (a3 : Vec Ideal S8192x2 .f32) (a4 : Vec Ideal S8192x1 .f32)

/-- The polynomial at a number of turns that is real. -/
theorem poly_at (y x : Fin 64) (n : Fin 4096) (i : Fin 2) (t : ℝ) (e : val_main_v108 (F := Ideal) a0 a3 (ix4 y x n i) = (t : EReal)) :
    val_main_v129 (F := Ideal) a0 a3 (ix4 y x n i) = (polyTurns t : EReal) := by
  pointwise [val_main_v129, val_main_v128, val_main_v127, val_main_v126, val_main_v125, val_main_v124, val_main_v123,
    val_main_v122, val_main_v121, val_main_v120, val_main_v119, val_main_v118, val_main_v117, val_main_v116, val_main_v115,
    val_main_v114, val_main_v113, val_main_v112, val_main_v111, val_main_v110, val_main_v109, val_main_cst_13,
    val_main_cst_14, val_main_cst_15, val_main_cst_16, val_main_cst_17]
  have r : (t : EReal) - Ideal.liftRound Ideal.roundHalfEven (t : EReal) = (part t : EReal) := rfl
  rw [e, r, ofBits_c0, ofBits_c1, ofBits_c2, ofBits_c3, ofBits_c4]
  simp only [← EReal.coe_mul, ← EReal.coe_add, ← EReal.coe_sub]
  exact congrArg _ (by unfold polyTurns poly; ring)

/-- The reference's result. -/
theorem image_at (h : ∀ n, Ok (gcol a0 a1 a3 a4 n))
    (d : ∀ n, eps ≤ ((Gau.of (gcol a0 a1 a3 a4 n)).L0 * (Gau.of (gcol a0 a1 a3 a4 n)).L2) ^ 2) (y x : Fin 64) (q : Fin 103) :
    val_main_v139 (F := Ideal) a0 a1 a2 a3 a4 (ix3 y x q) = image polyTurns a0 a1 a2 a3 a4 (pix y x) q := by
  pointwise [val_main_v139, val_main_v138, val_main_v137, val_main_v136, val_main_cst_19, val_main_v135, val_main_v134,
    val_main_v133, val_main_cst_18, val_main_v132, val_main_v131, val_main_v130]
  refine Finset.sum_congr rfl fun n _ => congrArg₂ (· * ·) ?_ (feat_at a2 n q)
  exact weight_of a0 a1 a3 a4 polyTurns y x n (h n) (d n) _ (poly_at a0 a3 y x n 0 _ (turns0_at (h n) y x))
    (poly_at a0 a3 y x n 1 _ (turns1_at (h n) y x))

end Cert.ReferenceIdeal.Image

end
-- ==== Proof.Domain.lean ====
/- What the precondition says of a gaussian's arguments. -/
module

public import proofs.«01_k».proof.Proof.Terms
public import proofs.«01_k».proof.Proof.Gen.Pre_in_range

@[expose] public section

noncomputable section

namespace Cert.Gauss

open Idealize.ShloMosaic

theorem ofBits_top : Ideal.ofBits .f32 0x7F800000#32 = ⊤ := by simp [Ideal.ofBits, Ideal.ieee]

theorem bool_one {p : Prop} [Decidable p] (h : BitVec.ofBool (decide p) = 1#1) : p := by
  by_contra hp
  rw [decide_eq_false hp] at h
  exact absurd h (by decide)

/-- A number whose absolute value is below the top is real. -/
theorem real_of_abs {a : EReal} (h : max a (-a) < ⊤) : a = (a.toReal : EReal) := by
  induction a using EReal.rec with
  | bot => simp at h
  | top => simp at h
  | coe r => rw [EReal.toReal_coe]

variable (a0 : Vec Ideal ⟨2, ![4096, 2]⟩ .f32) (a1 : Vec Ideal ⟨2, ![4096, 3]⟩ .f32) (a2 : Vec Ideal ⟨2, ![4096, 103]⟩ .f32)
  (a3 : Vec Ideal ⟨2, ![8192, 2]⟩ .f32) (a4 : Vec Ideal ⟨2, ![8192, 1]⟩ .f32)

/-- The three facts that the precondition states. -/
structure InRange : Prop where
  chol : (Cert.Pre_in_range.fn (F := Ideal) a0 a1 a2 a3 a4).1 = fun _ => 1#1
  det : (Cert.Pre_in_range.fn (F := Ideal) a0 a1 a2 a3 a4).2.1 = fun _ => 1#1
  freqs : (Cert.Pre_in_range.fn (F := Ideal) a0 a1 a2 a3 a4).2.2 = fun _ => 1#1

variable {a0 a1 a2 a3 a4} (p : InRange a0 a1 a2 a3 a4)
include p

theorem InRange.chol_at (n : Fin 4096) (k : Fin 3) : a1 (ix2 n k) = ((a1 (ix2 n k)).toReal : EReal) := by
  have h : (Cert.Pre_in_range.fn (F := Ideal) a0 a1 a2 a3 a4).1 (ix2 n k) = 1#1 := congrFun p.chol _
  revert h
  pointwise [Cert.Pre_in_range.fn]
  intro h
  have := bool_one h
  rw [ofBits_top] at this
  exact real_of_abs this

theorem InRange.freqs_at (n : Fin 8192) (k : Fin 2) : a3 (ix2 n k) < ⊤ := by
  have h : (Cert.Pre_in_range.fn (F := Ideal) a0 a1 a2 a3 a4).2.2 (ix2 n k) = 1#1 := congrFun p.freqs _
  revert h
  pointwise [Cert.Pre_in_range.fn]
  intro h
  have := bool_one h
  rwa [ofBits_top] at this

/-- The determinant is not raised. -/
theorem InRange.det_at (n : Fin 4096) : eps ≤ ((Gau.of (gcol a0 a1 a3 a4 n)).L0 * (Gau.of (gcol a0 a1 a3 a4 n)).L2) ^ 2 := by
  have h : (Cert.Pre_in_range.fn (F := Ideal) a0 a1 a2 a3 a4).2.1 (ix2 n 0) = 1#1 := congrFun p.det _
  revert h
  pointwise [Cert.Pre_in_range.fn]
  intro h
  have := bool_one h
  rw [p.chol_at n 0, p.chol_at n 2, ofBits_eps, ofBits_half] at this
  simp only [← EReal.coe_add, ← EReal.coe_mul, EReal.coe_le_coe_iff] at this
  exact this.trans (le_of_eq (pow_two _).symm)

/-- The gaussians are defined. -/
theorem InRange.ok (n : Fin 4096) : Ok (gcol a0 a1 a3 a4 n) where
  l0 := p.chol_at n 0
  l1 := p.chol_at n 1
  l2 := p.chol_at n 2
  n0 := fun e => absurd (p.det_at n) (by rw [e]; simp [eps_pos])
  n2 := fun e => absurd (p.det_at n) (by rw [e]; simp [eps_pos])
  ax := p.freqs_at _ 0
  ay := p.freqs_at _ 1
  bx := p.freqs_at _ 0
  bY := p.freqs_at _ 1

end Cert.Gauss

end
-- ==== Proof.Exact.lean ====
/- The exact image, with the cosine itself, and its scale, with one for each cosine. -/
module

public import proofs.«01_k».proof.Proof.Terms
public import proofs.«01_k».proof.Proof.Gen.ExactIdeal.Read
public import Mathlib.Analysis.SpecialFunctions.Trigonometric.Inverse

@[expose] public section

noncomputable section

namespace Cert.ExactIdeal.Image

open Cert.ExactIdeal Cert.ExactIdeal.Gen Cert.ExactIdeal.Read Idealize.ShloMosaic Idealize.ShloMosaic.TcCoe
  Idealize.ShloMosaic.StableHlo Cert.Gauss

/-- The cosine of `t` turns. -/
def cosTurns (t : ℝ) : ℝ := Real.cos (2 * Real.pi * t)

theorem ofBits_neg_one : Ideal.ofBits .f32 0xBF800000#32 = ((-1 : ℝ) : EReal) := by
  simp [Ideal.ofBits, Ideal.ieee, -EReal.coe_mul]; norm_num

variable (a0 : Vec Ideal S4096x2 .f32) (a1 : Vec Ideal S4096x3 .f32) (a2 : Vec Ideal S4096x103 .f32)
  (a3 : Vec Ideal S8192x2 .f32) (a4 : Vec Ideal S8192x1 .f32)

/-! ### The intermediate arrays are the reference's -/

theorem env_eq : val_main_v93 (F := Ideal) a0 a1 = ReferenceIdeal.Read.val_main_v93 (F := Ideal) a0 a1 := rfl
theorem turns_eq : val_main_v108 (F := Ideal) a0 a3 = ReferenceIdeal.Read.val_main_v108 (F := Ideal) a0 a3 := rfl
theorem wgt_eq : val_main_v42 (F := Ideal) a4 = ReferenceIdeal.Read.val_main_v42 (F := Ideal) a4 := rfl
theorem feat_eq : val_main_v49 (F := Ideal) a2 = ReferenceIdeal.Read.val_main_v49 (F := Ideal) a2 := rfl

/-- The cosine at a number of turns that is real. -/
theorem cos_at (y x : Fin 64) (n : Fin 4096) (i : Fin 2) (t : ℝ)
    (e : ReferenceIdeal.Read.val_main_v108 (F := Ideal) a0 a3 (ix4 y x n i) = (t : EReal)) :
    val_main_v113 (F := Ideal) a0 a3 (ix4 y x n i) = (cosTurns t : EReal) := by
  pointwise [val_main_v113, val_main_v112, val_main_v111, val_main_v110, val_main_cst_14, val_main_v109, val_main_cst_13]
  rw [turns_eq, e, ofBits_two, ofBits_neg_one, Ideal.acos_coe, if_pos (by norm_num), Real.arccos_neg_one, ← EReal.coe_mul,
    ← EReal.coe_mul, Ideal.cos_coe]
  rfl

variable (h : ∀ n, Ok (gcol a0 a1 a3 a4 n))
    (d : ∀ n, eps ≤ ((Gau.of (gcol a0 a1 a3 a4 n)).L0 * (Gau.of (gcol a0 a1 a3 a4 n)).L2) ^ 2)
include h d

theorem image_at (y x : Fin 64) (q : Fin 103) :
    val_main_v123 (F := Ideal) a0 a1 a2 a3 a4 (ix3 y x q) = image cosTurns a0 a1 a2 a3 a4 (pix y x) q := by
  pointwise [val_main_v123, val_main_v122, val_main_v121, val_main_v120, val_main_cst_16, val_main_v119, val_main_v118,
    val_main_v117, val_main_cst_15, val_main_v116, val_main_v115, val_main_v114]
  refine Finset.sum_congr rfl fun n _ => congrArg₂ (· * ·) ?_ (ReferenceIdeal.Image.feat_at a2 n q)
  rw [env_eq, wgt_eq]
  exact ReferenceIdeal.Image.weight_of a0 a1 a3 a4 cosTurns y x n (h n) (d n) _
    (cos_at a0 a3 y x n 0 _ (ReferenceIdeal.Image.turns0_at (h n) y x))
    (cos_at a0 a3 y x n 1 _ (ReferenceIdeal.Image.turns1_at (h n) y x))

theorem scale_at (y x : Fin 64) (q : Fin 103) :
    val_main_v134 (F := Ideal) a0 a1 a2 a4 (ix3 y x q) = image (fun _ => 1) a0 a1 a2 a3 a4 (pix y x) q := by
  pointwise [val_main_v134, val_main_v133, val_main_v132, val_main_v131, val_main_cst_19, val_main_v130, val_main_v129,
    val_main_v128, val_main_cst_18, val_main_v127, val_main_v126, val_main_v125, val_main_v124, val_main_cst_17]
  refine Finset.sum_congr rfl fun n _ => congrArg₂ (· * ·) ?_ (ReferenceIdeal.Image.feat_at a2 n q)
  rw [env_eq, wgt_eq, ← ReferenceIdeal.Image.weight_of a0 a1 a3 a4 (fun _ => 1) y x n (h n) (d n) (fun _ => 1) rfl rfl]
  simp only [mul_one]

end Cert.ExactIdeal.Image

end
-- ==== Proof.Cosine.lean ====
/- The polynomial that stands for the cosine of a number of turns is within 5e-5 of it. -/
module

public import proofs.«01_k».proof.Proof.Gauss
public import Mathlib.Analysis.SpecialFunctions.Trigonometric.Basic
public import Mathlib.Analysis.Complex.Trigonometric

@[expose] public section

noncomputable section

namespace Cert.Gauss

open Idealize.ShloMosaic

/-! ### The reduction to a part of a turn -/

theorem part_abs (t : ℝ) : |part t| ≤ 1 / 2 := by
  have l := Int.floor_le t
  have u := Int.lt_floor_add_one t
  unfold part Ideal.roundHalfEven
  dsimp only
  split_ifs with h1 h2 h3 <;> push_cast <;> rw [abs_le] <;> constructor <;> linarith

theorem cos_part (t : ℝ) : Real.cos (2 * Real.pi * t) = Real.cos (2 * Real.pi * part t) := by
  have e : 2 * Real.pi * part t = 2 * Real.pi * t - (Ideal.roundHalfEven t : ℤ) * (2 * Real.pi) := by unfold part; ring
  rw [e, Real.cos_sub_int_mul_two_pi]

/-! ### The cosine's series -/

/-- The even terms of the exponential's series at an imaginary number are the cosine's. -/
theorem cos_series (x : ℝ) (h : |x| ≤ 19 / 2) :
    |Real.cos x - (1 - x ^ 2 / 2 + x ^ 4 / 24 - x ^ 6 / 720 + x ^ 8 / 40320 - x ^ 10 / 3628800 + x ^ 12 / 479001600
      - x ^ 14 / 87178291200 + x ^ 16 / 20922789888000)| ≤ |x| ^ 18 / 6402373705728000 * 2 := by
  have n : ‖(x : ℂ) * Complex.I‖ = |x| := by simp
  have b := Complex.exp_bound' (x := (x : ℂ) * Complex.I) (n := 18) (by rw [n]; push_cast; linarith)
  rw [n] at b
  have r := (Complex.abs_re_le_norm _).trans b
  have i2 : Complex.I ^ 2 = -1 := Complex.I_sq
  have e : ∑ m ∈ Finset.range 18, ((x : ℂ) * Complex.I) ^ m / (m.factorial : ℂ)
      = ((1 - x ^ 2 / 2 + x ^ 4 / 24 - x ^ 6 / 720 + x ^ 8 / 40320 - x ^ 10 / 3628800 + x ^ 12 / 479001600
          - x ^ 14 / 87178291200 + x ^ 16 / 20922789888000 : ℝ) : ℂ)
        + ((x - x ^ 3 / 6 + x ^ 5 / 120 - x ^ 7 / 5040 + x ^ 9 / 362880 - x ^ 11 / 39916800 + x ^ 13 / 6227020800
          - x ^ 15 / 1307674368000 + x ^ 17 / 355687428096000 : ℝ) : ℂ) * Complex.I := by
    simp only [Finset.sum_range_succ, Finset.sum_range_zero, Nat.factorial]
    push_cast
    have p (k : ℕ) : ((x : ℂ) * Complex.I) ^ (2 * k) = (-1) ^ k * (x : ℂ) ^ (2 * k) := by rw [mul_pow, pow_mul Complex.I, i2]; ring
    have s (k : ℕ) : ((x : ℂ) * Complex.I) ^ (2 * k + 1) = (-1) ^ k * (x : ℂ) ^ (2 * k + 1) * Complex.I := by
      rw [pow_succ, p]; ring
    rw [p 0, s 0, p 1, s 1, p 2, s 2, p 3, s 3, p 4, s 4, p 5, s 5, p 6, s 6, p 7, s 7, p 8, s 8]
    ring
  rw [e, Complex.sub_re, Complex.exp_ofReal_mul_I_re, Complex.add_re, Complex.ofReal_re, Complex.re_ofReal_mul, Complex.I_re,
    mul_zero, add_zero] at r
  exact r

/-- Pi between two decimals, from the series at their halves. -/
theorem pi_near : |Real.pi - 355 / 113| ≤ 6 / 10000000 := by
  have b1 := abs_le.1 (cos_series 1.5707962 (by norm_num [abs_le]))
  have b2 := abs_le.1 (cos_series 1.5707965 (by norm_num [abs_le]))
  rw [abs_of_nonneg (by norm_num : (0 : ℝ) ≤ 1.5707962)] at b1
  rw [abs_of_nonneg (by norm_num : (0 : ℝ) ≤ 1.5707965)] at b2
  have l : 1.5707962 < Real.pi / 2 := by
    by_contra h
    have := Real.cos_nonpos_of_pi_div_two_le_of_le (not_lt.1 h) (by linarith [Real.two_le_pi])
    have := b1.1
    norm_num at this
    linarith
  have u : Real.pi / 2 < 1.5707965 := by
    by_contra h
    have := Real.cos_nonneg_of_neg_pi_div_two_le_of_le (by linarith [Real.two_le_pi]) (not_lt.1 h)
    have := b2.2
    norm_num at this
    linarith
  norm_num at l u
  exact abs_le.2 ⟨by linarith, by linarith⟩

/-- The cosines of two near numbers. -/
theorem cos_near {x y : ℝ} (h : |x - y| ≤ 1) : |Real.cos x - Real.cos y| ≤ 2 * |x - y| := by
  have hz : |(x - y) / 2| = |x - y| / 2 := by rw [abs_div, abs_of_pos (by norm_num : (0 : ℝ) < 2)]
  have hs : |Real.sin ((x - y) / 2)| ≤ |x - y| := by
    have b := abs_le.1 (Real.sin_bound (x := (x - y) / 2) (by rw [hz]; linarith))
    have n := abs_nonneg (x - y)
    have c := abs_le.1 (le_refl |((x - y) / 2) ^ 3 / 6|)
    have c3 : |((x - y) / 2) ^ 3 / 6| ≤ |x - y| / 4 := by
      rw [abs_div, abs_pow, hz, abs_of_pos (by norm_num : (0 : ℝ) < 6)]
      have : (|x - y| / 2) ^ 3 ≤ |x - y| / 2 := pow_le_of_le_one (by linarith) (by linarith) (by norm_num)
      linarith
    have c5 : |(x - y) / 2| ^ 5 / 100 ≤ |x - y| / 4 := by
      rw [hz]
      have : (|x - y| / 2) ^ 5 ≤ |x - y| / 2 := pow_le_of_le_one (by linarith) (by linarith) (by norm_num)
      linarith
    have d := abs_le.1 (le_of_eq hz)
    exact abs_le.2 ⟨by linarith [b.1, b.2, c.1, c.2, d.1, d.2], by linarith [b.1, b.2, c.1, c.2, d.1, d.2]⟩
  rw [Real.cos_sub_cos, abs_mul, abs_mul, abs_neg, abs_of_pos (by norm_num : (0 : ℝ) < 2)]
  calc _ ≤ 2 * 1 * |x - y| := by gcongr; exact Real.abs_sin_le_one _
    _ = _ := by ring

/-- The series in the square of a part of a turn, 355/113 in place of pi. -/
def taylor (v : ℝ) : ℝ :=
  1
    - 252050/12769 * v ^ 1 + 31764601250/489142083 * v ^ 2
    - 1601253549012500/18737565773481 * v ^ 3 + 100898989257150156250/1674819841531052223 * v ^ 4
    - 5086318048452939376562500/192471971008590052519383 * v ^ 5 + 641003232056281684931289062500/81103261727686650560460050391 * v ^ 6
    - 161564864639785798686931408203125000/94240286959075606531592808893283789 * v ^ 7 + 1018060603311450263976026535939941406250/3610062672541309259405725730275022105223 * v ^ 8

theorem forms_nonneg (s r : ℝ) (hs : 0 ≤ s) (hr : 0 ≤ r) (a0 a1 a2 a3 a4 a5 a6 a7 a8 : ℝ) (h0 : 0 ≤ a0) (h1 : 0 ≤ a1) (h2 : 0 ≤ a2)
    (h3 : 0 ≤ a3) (h4 : 0 ≤ a4) (h5 : 0 ≤ a5) (h6 : 0 ≤ a6) (h7 : 0 ≤ a7) (h8 : 0 ≤ a8) :
    0 ≤ a0 * r ^ 8 + a1 * s * r ^ 7 + a2 * s ^ 2 * r ^ 6 + a3 * s ^ 3 * r ^ 5 + a4 * s ^ 4 * r ^ 4 + a5 * s ^ 5 * r ^ 3
      + a6 * s ^ 6 * r ^ 2 + a7 * s ^ 7 * r + a8 * s ^ 8 := by positivity

/-! ### The polynomial and the series, on five intervals -/

theorem below0 (v : ℝ) (h0 : 0 ≤ v) (h1 : v ≤ 11/256) : 0 ≤ 48 / 1000000 + (poly v - taylor v) := by
  refine le_of_le_of_eq (forms_nonneg (v - 0) (11/256 - v) (sub_nonneg.2 h0) (sub_nonneg.2 h1)
    (2015308056690163712/3349357515625)
    (1513768904662332131508224/42767946117015625)
    (308558889909706746158475378688/1638311711904517546875)
    (27699930197733806550174817878802432/62758806747926353668140625)
    (644177056430635748774343566468638244864/1121914084709980253983882696875)
    (286867133575781816385077938679543368116862976/644657442644778203840408917037859375)
    (5061823981434323376471602609517826495469919010816/24694892655393518654514544384969279078125)
    (1489609391704884212514453156562585758773993210380847104/28694946672821505412654155769902217933920609375)
    (875768134922006543686497051379392517071725570934000111838/157031046027967629691791820725377751770670969046875)
    (by norm_num) (by norm_num) (by norm_num) (by norm_num) (by norm_num) (by norm_num) (by norm_num) (by norm_num) (by norm_num)) ?_
  unfold poly taylor; ring

theorem below1 (v : ℝ) (h0 : 11/256 ≤ v) (h1 : v ≤ 15/128) : 0 ≤ 48 / 1000000 + (poly v - taylor v) := by
  refine le_of_le_of_eq (forms_nonneg (v - 11/256) (15/128 - v) (sub_nonneg.2 h0) (sub_nonneg.2 h1)
    (875768134922006543686497051379392517071725570934000111838/12441503039989096080315374418928896142801005654046875)
    (11730411947764545525644941273241301458022641178121124170976/29030173759974557520735873644167424333202346526109375)
    (3204929649705724635636408711078273611948348552019847835488/4147167679996365360105124806309632047600335218015625)
    (759837465350204216355378125806219121692130756586515556992/1382389226665455120035041602103210682533445072671875)
    (6423798339750021655113598439430925890440623439162996416/92159281777697008002336106806880712168896338178125)
    (1149360922575221174029250742155709784116219730276389376/11815292535602180513120013693189834893448248484375)
    (164165830862719988416615324073525923299244616336503280128/563195610863703937792053986042048796587699844421875)
    (36250099657951553017601049979522378768283811791951169536/187731870287901312597351328680682932195899948140625)
    (52197423334270132138824321984225070585598301092129273344/1314123092015309188181459300764780525371299636984375)
    (by norm_num) (by norm_num) (by norm_num) (by norm_num) (by norm_num) (by norm_num) (by norm_num) (by norm_num) (by norm_num)) ?_
  unfold poly taylor; ring

theorem below2 (v : ℝ) (h0 : 15/128 ≤ v) (h1 : v ≤ 49/256) : 0 ≤ 48 / 1000000 + (poly v - taylor v) := by
  refine le_of_le_of_eq (forms_nonneg (v - 15/128) (49/256 - v) (sub_nonneg.2 h0) (sub_nonneg.2 h1)
    (52197423334270132138824321984225070585598301092129273344/1314123092015309188181459300764780525371299636984375)
    (581408075742661243097981801890944477991586134930410186752/1314123092015309188181459300764780525371299636984375)
    (88241381944132392641610667705876107933849459499750713856/43322739297207995214773383541696061275976911109375)
    (8406251798257884985768384488913389048126246481035971680768/1689586832591111813376161958126146389763099533265625)
    (7102842921328115225215034071337565194653357607765528960576/1013752099554667088025697174875687833857859719959375)
    (12601391499591251611124382277341774790973514862828098732416/2172325927617143760055065374733616786838270828484375)
    (17870188503330661504433495951934880239649675139988130598624/6516977782851431280165196124200850360514812485453125)
    (4383779679571807186412689136740312845102177153182739242464/6516977782851431280165196124200850360514812485453125)
    (1293517953032203782660165213139138814398231451055647747174/19550933348554293840495588372602551081544437456359375)
    (by norm_num) (by norm_num) (by norm_num) (by norm_num) (by norm_num) (by norm_num) (by norm_num) (by norm_num) (by norm_num)) ?_
  unfold poly taylor; ring

theorem below3 (v : ℝ) (h0 : 49/256 ≤ v) (h1 : v ≤ 31/128) : 0 ≤ 48 / 1000000 + (poly v - taylor v) := by
  refine le_of_le_of_eq (forms_nonneg (v - 49/256) (31/128 - v) (sub_nonneg.2 h0) (sub_nonneg.2 h1)
    (1293517953032203782660165213139138814398231451055647747174/939043056992126627697387972412466616768015196359375)
    (8430167814365457267942495696355122922471702236637841727392/939043056992126627697387972412466616768015196359375)
    (21748567977253974123763953296933516213617334765753751795872/939043056992126627697387972412466616768015196359375)
    (27339404658630524342375863237383160404694136667648824591744/939043056992126627697387972412466616768015196359375)
    (22297496759457904119003569651128306329547638632902625935552/1314660279788977278776343161377453263475221274903125)
    (2798655071865647493203366170992199286783461938613226591744/939043056992126627697387972412466616768015196359375)
    (5695663467515185953187737434401634837783204400481273071104/6573301398944886393881715806887266317376106374515625)
    (101424022657217562799377457950625210296354763501694946142208/46013109792614204757172010648210864221632744621609375)
    (41922917941792507479966215808487020398757726942880704267776/46013109792614204757172010648210864221632744621609375)
    (by norm_num) (by norm_num) (by norm_num) (by norm_num) (by norm_num) (by norm_num) (by norm_num) (by norm_num) (by norm_num)) ?_
  unfold poly taylor; ring

theorem below4 (v : ℝ) (h0 : 31/128 ≤ v) (h1 : v ≤ 1/4) : 0 ≤ 48 / 1000000 + (poly v - taylor v) := by
  refine le_of_le_of_eq (forms_nonneg (v - 31/128) (1/4 - v) (sub_nonneg.2 h0) (sub_nonneg.2 h1)
    (163761398210126982343618030501902423432647370870627751046/56407229258457957178214464535547220394109375)
    (1450691739092748128604925174614540873575185608816795258368/56407229258457957178214464535547220394109375)
    (10419474792565244428588545300509937355115570775721787392/104651631277287490126557448117898368078125)
    (253209040129152116640248181257369663544830251592599322624/1151167944050162391392131929296882048859375)
    (488738395140054950656052181904282126610070127506863214592/1611635121670227347948984701015634868403125)
    (2152759048921911328906112314555972962942607808198691258368/8058175608351136739744923505078174342015625)
    (169042048558388703340966776104190511359334051202635661312/1151167944050162391392131929296882048859375)
    (2597171710523592121644390714049432187306321796192291258368/56407229258457957178214464535547220394109375)
    (355657237732393894745293887524554543962057338198788407296/56407229258457957178214464535547220394109375)
    (by norm_num) (by norm_num) (by norm_num) (by norm_num) (by norm_num) (by norm_num) (by norm_num) (by norm_num) (by norm_num)) ?_
  unfold poly taylor; ring

theorem above0 (v : ℝ) (h0 : 0 ≤ v) (h1 : v ≤ 11/256) : 0 ≤ 48 / 1000000 - (poly v - taylor v) := by
  refine le_of_le_of_eq (forms_nonneg (v - 0) (11/256 - v) (sub_nonneg.2 h0) (sub_nonneg.2 h1)
    (25654808053874163712/3349357515625)
    (1312788796264035043508224/42767946117015625)
    (70410420563145469648267378688/1638311711904517546875)
    (1334424554833293111642971734802432/62758806747926353668140625)
    (4617376281540518493721305789572644864/1121914084709980253983882696875)
    (11373286431082218857775194059600046516862976/644657442644778203840408917037859375)
    (650523903167146922552384868401356896717151010816/24694892655393518654514544384969279078125)
    (406855831895496317939716542181715612331760914380847104/28694946672821505412654155769902217933920609375)
    (421515674371918045244000781652713779766633772945396674338/157031046027967629691791820725377751770670969046875)
    (by norm_num) (by norm_num) (by norm_num) (by norm_num) (by norm_num) (by norm_num) (by norm_num) (by norm_num) (by norm_num)) ?_
  unfold poly taylor; ring

theorem above1 (v : ℝ) (h0 : 11/256 ≤ v) (h1 : v ≤ 15/128) : 0 ≤ 48 / 1000000 - (poly v - taylor v) := by
  refine le_of_le_of_eq (forms_nonneg (v - 11/256) (15/128 - v) (sub_nonneg.2 h0) (sub_nonneg.2 h1)
    (22185035493258844486526356929090198935085988049757719702/654815949473110320016598653627836639094789771265625)
    (657134341704669129880229032106562249980354381103207851104/1527903882103924080038730191798285491221176132953125)
    (468581714230047624265696722660774657467175718816904675552/218271983157703440005532884542612213031596590421875)
    (384850035861449935864967693085040821799526002619693450368/72757327719234480001844294847537404343865530140625)
    (35065362134389266394422811899775542215779988267941820864/4850488514615632000122952989835826956257702009375)
    (3570631092567005002441899216189733104427137695869704704/621857501873798974374737562799464994392013078125)
    (77901476361899028851062553351531717579488463535863962112/29641874255984417778529157160107831399352623390625)
    (6334174613184512430586430140188689625275916790488377344/9880624751994805926176385720035943799784207796875)
    (234978024406177273989130187890565030074410390215227904/3640230171787560078064984212644821399920497609375)
    (by norm_num) (by norm_num) (by norm_num) (by norm_num) (by norm_num) (by norm_num) (by norm_num) (by norm_num) (by norm_num)) ?_
  unfold poly taylor; ring

theorem above2 (v : ℝ) (h0 : 15/128 ≤ v) (h1 : v ≤ 49/256) : 0 ≤ 48 / 1000000 - (poly v - taylor v) := by
  refine le_of_le_of_eq (forms_nonneg (v - 15/128) (49/256 - v) (sub_nonneg.2 h0) (sub_nonneg.2 h1)
    (234978024406177273989130187890565030074410390215227904/3640230171787560078064984212644821399920497609375)
    (27094097127186304278590566137410941765689341092010641408/69164373263963641483234700040251606598489454578125)
    (2012776989737167741886093755369389288135556477818458624/2280144173537262906040704396931371646104047953125)
    (76816394324996012302759923031704331354258213687975772672/88925622767953253335587471480323494198057870171875)
    (15604186657710088917135957818382279644184568319216029504/53355373660771952001352482888194096518834722103125)
    (4376910652304674419674671407891116976689991204292564864/114332943558797040002898177617558778254645833078125)
    (60875826297205217537568715747509409507697994925071347296/342998830676391120008694532852676334763937499234375)
    (55392486082349405792524655226262617480275443720675170656/342998830676391120008694532852676334763937499234375)
    (39214257375998075185070072717136823792739343047246845246/1028996492029173360026083598558029004291812497703125)
    (by norm_num) (by norm_num) (by norm_num) (by norm_num) (by norm_num) (by norm_num) (by norm_num) (by norm_num) (by norm_num)) ?_
  unfold poly taylor; ring

theorem above3 (v : ℝ) (h0 : 49/256 ≤ v) (h1 : v ≤ 31/128) : 0 ≤ 48 / 1000000 - (poly v - taylor v) := by
  refine le_of_le_of_eq (forms_nonneg (v - 49/256) (31/128 - v) (sub_nonneg.2 h0) (sub_nonneg.2 h1)
    (745070890143963428516331381625599652062047517897690059674/939043056992126627697387972412466616768015196359375)
    (7878542931043880421469477061762784809210529514988860727392/939043056992126627697387972412466616768015196359375)
    (35331919631678707789177951356479160847270476364939706795872/939043056992126627697387972412466616768015196359375)
    (86821570559234839483507946069442193717081485593738092591744/939043056992126627697387972412466616768015196359375)
    (177484209871806482576293096635816063383559700324524479135552/1314660279788977278776343161377453263475221274903125)
    (111362320145999716332680443135833154834992160322773690591744/939043056992126627697387972412466616768015196359375)
    (393867749795013587437405595139487104588431473514372937071104/6573301398944886393881715806887266317376106374515625)
    (697702803867839983981809207197152268556074592328013474142208/46013109792614204757172010648210864221632744621609375)
    (57967935373839685867682117334985164457795942535832848267776/46013109792614204757172010648210864221632744621609375)
    (by norm_num) (by norm_num) (by norm_num) (by norm_num) (by norm_num) (by norm_num) (by norm_num) (by norm_num) (by norm_num)) ?_
  unfold poly taylor; ring

theorem above4 (v : ℝ) (h0 : 31/128 ≤ v) (h1 : v ≤ 1/4) : 0 ≤ 48 / 1000000 - (poly v - taylor v) := by
  refine le_of_le_of_eq (forms_nonneg (v - 31/128) (1/4 - v) (sub_nonneg.2 h0) (sub_nonneg.2 h1)
    (226437247554061272920633270839785798663265400530597063546/56407229258457957178214464535547220394109375)
    (1670897427020757913509085236118964903192116562393003258368/56407229258457957178214464535547220394109375)
    (9850584727652327273450483340616723532983793972393787392/104651631277287490126557448117898368078125)
    (192732269315634460804610448847416875993355772865943322624/1151167944050162391392131929296882048859375)
    (291658896388321559872450420779094317581755415295586414592/1611635121670227347948984701015634868403125)
    (968830117191594713207898096177532813824694363011107258368/8058175608351136739744923505078174342015625)
    (53928606164004585381462538948202758409758961026635661312/1151167944050162391392131929296882048859375)
    (524417455589913920469619696684073589460980375017507258368/56407229258457957178214464535547220394109375)
    (34541408031794360518957413817133678133855433202436407296/56407229258457957178214464535547220394109375)
    (by norm_num) (by norm_num) (by norm_num) (by norm_num) (by norm_num) (by norm_num) (by norm_num) (by norm_num) (by norm_num)) ?_
  unfold poly taylor; ring

theorem below (v : ℝ) (h0 : 0 ≤ v) (h1 : v ≤ 1 / 4) : 0 ≤ 48 / 1000000 + (poly v - taylor v) := by
  rcases le_total v (11/256) with g0 | g0
  · exact below0 v h0 g0
  rcases le_total v (15/128) with g1 | g1
  · exact below1 v g0 g1
  rcases le_total v (49/256) with g2 | g2
  · exact below2 v g1 g2
  rcases le_total v (31/128) with g3 | g3
  · exact below3 v g2 g3
  exact below4 v g3 h1

theorem above (v : ℝ) (h0 : 0 ≤ v) (h1 : v ≤ 1 / 4) : 0 ≤ 48 / 1000000 - (poly v - taylor v) := by
  rcases le_total v (11/256) with g0 | g0
  · exact above0 v h0 g0
  rcases le_total v (15/128) with g1 | g1
  · exact above1 v g0 g1
  rcases le_total v (49/256) with g2 | g2
  · exact above2 v g1 g2
  rcases le_total v (31/128) with g3 | g3
  · exact above3 v g2 g3
  exact above4 v g3 h1

/-- The polynomial's distance from the cosine. -/
theorem polyTurns_near (t : ℝ) : |polyTurns t - Real.cos (2 * Real.pi * t)| ≤ 499 / 10000000 := by
  have ha := part_abs t
  rw [cos_part]
  unfold polyTurns
  generalize part t = u at ha ⊢
  have v0 : 0 ≤ u * u := mul_self_nonneg u
  have v1 : u * u ≤ 1 / 4 := by
    have := mul_self_le_mul_self (abs_nonneg u) ha
    rw [abs_mul_abs_self] at this
    linarith
  have b1 : |poly (u * u) - taylor (u * u)| ≤ 48 / 1000000 :=
    abs_le.2 ⟨by linarith [below _ v0 v1], by linarith [above _ v0 v1]⟩
  have hx : |2 * (355 / 113) * u| ≤ 355 / 113 := by
    rw [abs_mul, abs_of_nonneg (by norm_num : (0 : ℝ) ≤ 2 * (355 / 113))]
    linarith
  have b2 := cos_series (2 * (355 / 113) * u) (hx.trans (by norm_num))
  have e2 : 1 - (2 * (355 / 113) * u) ^ 2 / 2 + (2 * (355 / 113) * u) ^ 4 / 24 - (2 * (355 / 113) * u) ^ 6 / 720
      + (2 * (355 / 113) * u) ^ 8 / 40320 - (2 * (355 / 113) * u) ^ 10 / 3628800 + (2 * (355 / 113) * u) ^ 12 / 479001600
      - (2 * (355 / 113) * u) ^ 14 / 87178291200 + (2 * (355 / 113) * u) ^ 16 / 20922789888000 = taylor (u * u) := by
    unfold taylor; ring
  rw [e2] at b2
  have c2 : |2 * (355 / 113) * u| ^ 18 / 6402373705728000 * 2 ≤ 4 / 10000000 := by
    have := pow_le_pow_left₀ (abs_nonneg _) hx 18
    calc _ ≤ ((355 / 113 : ℝ)) ^ 18 / 6402373705728000 * 2 := by gcongr
      _ ≤ _ := by norm_num
  have b3 : |Real.cos (2 * Real.pi * u) - Real.cos (2 * (355 / 113) * u)| ≤ 12 / 10000000 := by
    have e3 : 2 * Real.pi * u - 2 * (355 / 113) * u = 2 * (Real.pi - 355 / 113) * u := by ring
    have c3 : |2 * Real.pi * u - 2 * (355 / 113) * u| ≤ 6 / 10000000 := by
      rw [e3, abs_mul, abs_mul, abs_of_nonneg (by norm_num : (0 : ℝ) ≤ 2)]
      nlinarith [pi_near, abs_nonneg u, abs_nonneg (Real.pi - 355 / 113)]
    linarith [cos_near (c3.trans (by norm_num))]
  rw [abs_le] at b1 b2 b3 ⊢
  constructor <;> linarith [b1.1, b1.2, b2.1, b2.2, b3.1, b3.2, c2]

end Cert.Gauss

end
-- ==== Proof.Within.lean ====
/- The image by the polynomial is within 5e-5 of the exact one, in units of the image with one for each cosine. -/
module

public import proofs.«01_k».proof.Proof.Exact
public import proofs.«01_k».proof.Proof.Cosine
public import proofs.«01_k».proof.Proof.Gen.Post_within

@[expose] public section

noncomputable section

namespace Cert.Gauss

open Idealize.ShloMosaic Cert.ExactIdeal.Image

/-! ### The image in real numbers -/

/-- The softplus of a real number is real and not negative. -/
theorem soft_real (r : ℝ) : ∃ s : ℝ, 0 ≤ s ∧ soft (r : EReal) = (s : EReal) := by
  refine ⟨max r 0 + Real.log (1 + Real.exp (-|r|)), ?_, ?_⟩
  · have : 0 ≤ Real.log (1 + Real.exp (-|r|)) := Real.log_nonneg (by linarith [Real.exp_pos (-|r|)])
    positivity
  · have m (a b : ℝ) : max (a : EReal) (b : EReal) = ((max a b : ℝ) : EReal) :=
      (EReal.coe_strictMono.monotone.map_max).symm
    unfold soft Ideal.log1p
    rw [← EReal.coe_neg, m, ← EReal.coe_zero, m, ← EReal.coe_neg, Ideal.exp_coe, ← EReal.coe_one, ← EReal.coe_add,
      Ideal.log_coe, if_neg (not_le.2 (by positivity)), ← EReal.coe_add]
    rfl

theorem log1p_zero : Ideal.log1p 0 = 0 := by
  unfold Ideal.log1p
  rw [add_zero, ← EReal.coe_one, Ideal.log_coe, if_neg (by norm_num), Real.log_one, EReal.coe_zero]

/-- The softplus is a real number that is not negative, or the top. -/
theorem soft_cases (a : EReal) : (∃ s : ℝ, 0 ≤ s ∧ soft a = (s : EReal)) ∨ soft a = ⊤ := by
  induction a using EReal.rec with
  | bot => exact Or.inl ⟨0, le_rfl, by simp [soft, log1p_zero]⟩
  | top => exact Or.inr (by simp [soft, log1p_zero])
  | coe r => exact Or.inl (soft_real r)

/-- A gaussian's term of the image is a real multiple of its weight, whatever stands for the cosine, unless its softplus is
    the top and its weight with one for each cosine is positive. -/
theorem term_cases (g : Gau) (h0 : 0 ≤ g.w0) (h1 : 0 ≤ g.w1) (x y : ℝ) (a : EReal) :
    (∃ s : ℝ, 0 ≤ s ∧ ∀ C : ℝ → ℝ, (g.weight C x y : EReal) * soft a = ((g.weight C x y * s : ℝ) : EReal))
      ∨ (soft a = ⊤ ∧ 0 < g.weight (fun _ => 1) x y) := by
  rcases soft_cases a with ⟨s, hs, e⟩ | e
  · exact Or.inl ⟨s, hs, fun C => by rw [e, EReal.coe_mul]⟩
  · by_cases z : g.w0 + g.w1 = 0
    · have z0 : g.w0 = 0 := by linarith
      have z1 : g.w1 = 0 := by linarith
      refine Or.inl ⟨0, le_rfl, fun C => ?_⟩
      have : g.weight C x y = 0 := by simp [Gau.weight, z0, z1]
      rw [this]; simp
    · refine Or.inr ⟨e, ?_⟩
      have : 0 < g.w0 + g.w1 := lt_of_le_of_ne (by linarith) (Ne.symm z)
      unfold Gau.weight
      simp only [mul_one]
      exact mul_pos (Real.exp_pos _) this

/-- The weight by the polynomial is near the weight by the cosine. -/
theorem weight_near (g : Gau) (h0 : 0 ≤ g.w0) (h1 : 0 ≤ g.w1) (x y : ℝ) :
    |g.weight polyTurns x y - g.weight cosTurns x y| ≤ 499 / 10000000 * g.weight (fun _ => 1) x y := by
  have e : g.weight polyTurns x y - g.weight cosTurns x y
      = Real.exp (-g.sigma x y) * (g.w0 * (polyTurns (g.ta x y) - cosTurns (g.ta x y))
          + g.w1 * (polyTurns (g.tb x y) - cosTurns (g.tb x y))) := by unfold Gau.weight; ring
  have a := abs_le.1 (polyTurns_near (g.ta x y))
  have b := abs_le.1 (polyTurns_near (g.tb x y))
  have u : |g.w0 * (polyTurns (g.ta x y) - cosTurns (g.ta x y)) + g.w1 * (polyTurns (g.tb x y) - cosTurns (g.tb x y))|
      ≤ 499 / 10000000 * (g.w0 + g.w1) := by
    unfold cosTurns
    exact abs_le.2 ⟨by nlinarith [a.1, b.1], by nlinarith [a.2, b.2]⟩
  rw [e, abs_mul, abs_of_pos (Real.exp_pos _)]
  calc _ ≤ Real.exp (-g.sigma x y) * (499 / 10000000 * (g.w0 + g.w1)) := by gcongr
    _ = _ := by unfold Gau.weight; ring

theorem ofBits_tol : Ideal.ofBits .f32 0x3851B717#32 = ((13743895 / 274877906944 : ℝ) : EReal) := by
  simp [Ideal.ofBits, Ideal.ieee, -EReal.coe_mul]; norm_num

theorem coe_total {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

variable (a0 : Vec Ideal ⟨2, ![4096, 2]⟩ .f32) (a1 : Vec Ideal ⟨2, ![4096, 3]⟩ .f32) (a2 : Vec Ideal ⟨2, ![4096, 103]⟩ .f32)
  (a3 : Vec Ideal ⟨2, ![8192, 2]⟩ .f32) (a4 : Vec Ideal ⟨2, ![8192, 1]⟩ .f32)

/-- A softplus is not negative. -/
theorem soft_nonneg (a : EReal) : 0 ≤ soft a := by
  rcases soft_cases a with ⟨s, hs, e⟩ | e
  · rw [e]; exact_mod_cast hs
  · rw [e]; exact le_top

/-- With one for each cosine a weight is not negative. -/
theorem one_nonneg (n : Fin 4096) (x y : ℝ) : 0 ≤ (Gau.of (gcol a0 a1 a3 a4 n)).weight (fun _ => 1) x y := by
  have w0 : 0 ≤ (Gau.of (gcol a0 a1 a3 a4 n)).w0 := wgt_nonneg _
  have w1 : 0 ≤ (Gau.of (gcol a0 a1 a3 a4 n)).w1 := wgt_nonneg _
  unfold Gau.weight; positivity

/-- A gaussian of positive weight whose softplus is the top raises the scale to the top. -/
theorem scale_top (p : Fin 4096) (q : Fin 103) (n : Fin 4096) (e : soft (a2 (ix2 n q)) = ⊤)
    (w : 0 < (Gau.of (gcol a0 a1 a3 a4 n)).weight (fun _ => 1) (pxx p) (pxy p)) :
    image (fun _ => 1) a0 a1 a2 a3 a4 p q = ⊤ := by
  refine top_le_iff.1 (le_trans ?_ (Finset.single_le_sum (f := fun n =>
    ((Gau.of (gcol a0 a1 a3 a4 n)).weight (fun _ => 1) (pxx p) (pxy p) : EReal) * soft (a2 (ix2 n q)))
    (fun k _ => mul_nonneg (EReal.coe_nonneg.2 (one_nonneg a0 a1 a3 a4 k _ _)) (soft_nonneg _)) (Finset.mem_univ n)))
  rw [e, EReal.coe_mul_top_of_pos w]

/-- The distance of the two images. -/
theorem image_near (p : Fin 4096) (q : Fin 103) :
    max (image polyTurns a0 a1 a2 a3 a4 p q - image cosTurns a0 a1 a2 a3 a4 p q)
        (-(image polyTurns a0 a1 a2 a3 a4 p q - image cosTurns a0 a1 a2 a3 a4 p q))
      ≤ Ideal.ofBits .f32 0x3851B717#32 * image (fun _ => 1) a0 a1 a2 a3 a4 p q := by
  by_cases t : ∃ n, soft (a2 (ix2 n q)) = ⊤ ∧ 0 < (Gau.of (gcol a0 a1 a3 a4 n)).weight (fun _ => 1) (pxx p) (pxy p)
  · obtain ⟨n, e, w⟩ := t
    rw [scale_top a0 a1 a2 a3 a4 p q n e w, ofBits_tol, EReal.coe_mul_top_of_pos (by norm_num)]
    exact le_top
  choose s hs es using fun n => (term_cases (Gau.of (gcol a0 a1 a3 a4 n)) (wgt_nonneg _) (wgt_nonneg _) (pxx p) (pxy p)
    (a2 (ix2 n q))).resolve_right (fun k => t ⟨n, k⟩)
  have e (C : ℝ → ℝ) : image C a0 a1 a2 a3 a4 p q
      = ((∑ n, (Gau.of (gcol a0 a1 a3 a4 n)).weight C (pxx p) (pxy p) * s n : ℝ) : EReal) := by
    unfold image
    rw [← coe_total]
    exact Finset.sum_congr rfl fun n _ => es n C
  have b : |∑ n, (Gau.of (gcol a0 a1 a3 a4 n)).weight polyTurns (pxx p) (pxy p) * s n
        - ∑ n, (Gau.of (gcol a0 a1 a3 a4 n)).weight cosTurns (pxx p) (pxy p) * s n|
      ≤ 13743895 / 274877906944 * ∑ n, (Gau.of (gcol a0 a1 a3 a4 n)).weight (fun _ => 1) (pxx p) (pxy p) * s n := by
    rw [← Finset.sum_sub_distrib, Finset.mul_sum]
    refine (Finset.abs_sum_le_sum_abs _ _).trans (Finset.sum_le_sum fun n _ => ?_)
    have w0 : 0 ≤ (Gau.of (gcol a0 a1 a3 a4 n)).w0 := wgt_nonneg _
    have w1 : 0 ≤ (Gau.of (gcol a0 a1 a3 a4 n)).w1 := wgt_nonneg _
    have o := one_nonneg a0 a1 a3 a4 n (pxx p) (pxy p)
    have := weight_near _ w0 w1 (pxx p) (pxy p)
    rw [← sub_mul, abs_mul, abs_of_nonneg (hs n), ← mul_assoc]
    exact mul_le_mul_of_nonneg_right (this.trans (mul_le_mul_of_nonneg_right (by norm_num) o)) (hs n)
  rw [e, e, e, ofBits_tol, ← EReal.coe_sub, ← EReal.coe_neg, ← EReal.coe_mul]
  have c := abs_le.1 b
  exact max_le (EReal.coe_le_coe_iff.2 c.2) (EReal.coe_le_coe_iff.2 (by linarith [c.1]))

/-- The property of a result that is the image by the polynomial. -/
theorem within_of (h : ∀ n, Ok (gcol a0 a1 a3 a4 n))
    (d : ∀ n, eps ≤ ((Gau.of (gcol a0 a1 a3 a4 n)).L0 * (Gau.of (gcol a0 a1 a3 a4 n)).L2) ^ 2)
    (b : Vec Ideal ⟨3, ![64, 64, 103]⟩ .f32)
    (eb : ∀ y x q, b (ix3 y x q) = image polyTurns a0 a1 a2 a3 a4 (pix y x) q) :
    Cert.Post_within.fn (F := Ideal) a0 a1 a2 a3 a4 b = fun _ => 1#1 := by
  have e : Cert.Post_within.fn (F := Ideal) a0 a1 a2 a3 a4 b
      = cmpf .ole (Host.absf (subf b (Cert.ExactIdeal.Read.val_main_v123 (F := Ideal) a0 a1 a2 a3 a4)))
          (mulf (broadcastInDim Post_within.S64x64x103 ![] Cert.Post_within.Gen.bcast_S_S64x64x103
            (constant (F := Ideal) Post_within.S_ .f32 0x3851B717#32)) (Cert.ExactIdeal.Read.val_main_v134 (F := Ideal) a0 a1 a2 a4)) := rfl
  rw [e]
  funext i
  obtain ⟨y, x, q, rfl⟩ : ∃ (y x : Fin 64) (q : Fin 103), i = ix3 y x q := ⟨i 0, i 1, i 2, by funext k; fin_cases k <;> rfl⟩
  pointwise []
  rw [Cert.ExactIdeal.Image.image_at a0 a1 a2 a3 a4 h d, Cert.ExactIdeal.Image.scale_at a0 a1 a2 a3 a4 h d, eb]
  have := image_near a0 a1 a2 a3 a4 (pix y x) q
  exact congrArg BitVec.ofBool (decide_eq_true this)

end Cert.Gauss

end
-- ==== Proof.lean ====
/- The claims: the frames, the idealization, the kernel's image equal to the reference's, and near to the exact one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.Post_within
public import proofs.«01_k».proof.Proof.Gen.ExactIdeal
public import proofs.«01_k».proof.Proof.Gen.ExactIdeal.Run
public import proofs.«01_k».proof.Proof.Gen.ExactIdeal.Read
public import proofs.«01_k».proof.Proof.Args
public import proofs.«01_k».proof.Proof.Ref
public import proofs.«01_k».proof.Proof.Domain
public import proofs.«01_k».proof.Proof.Within
public import Idealize.ShloMosaic.Adequacy
public import Idealize.ShloMosaic.Init

@[expose] public section

noncomputable section

namespace Cert.Proof

open Idealize.ShloMosaic Idealize.SL.Sem Cert.KernelIdeal.Block Cert.Gauss

/-- The precondition at one device. -/
theorem in_range_at {m : (ℓ : Loc Cert.KernelIdeal.nD Cert.KernelIdeal.τ Cert.KernelIdeal.sig) → Buf (Elt Ideal) ℓ}
    (h : Pre_KernelIdeal_in_range m) (c : Dev Cert.KernelIdeal.nD) :
    InRange (arg0 m c) (arg1 m c) (arg2 m c) (arg3 m c) (arg4 m c) := ⟨(h c).1, (h c).2.1, (h c).2.2⟩

/-- The kernel's result is the reference's function of its arguments. -/
theorem result_eq {m : (ℓ : Loc Cert.KernelIdeal.nD Cert.KernelIdeal.τ Cert.KernelIdeal.sig) → Buf (Elt Ideal) ℓ}
    {c : Dev Cert.KernelIdeal.nD} (p : InRange (arg0 m c) (arg1 m c) (arg2 m c) (arg3 m c) (arg4 m c)) :
    Cert.ReferenceIdeal.Read.val_main_v139 (F := Ideal) (arg0 m c) (arg1 m c) (arg2 m c) (arg3 m c) (arg4 m c)
      = result (F := Ideal) m c := by
  funext i
  obtain ⟨y, x, q, rfl⟩ : ∃ (y x : Fin 64) (q : Fin 103), i = ix3 y x q := ⟨i 0, i 1, i 2, by funext k; fin_cases k <;> rfl⟩
  exact (Cert.ReferenceIdeal.Image.image_at _ _ _ _ _ p.ok p.det_at y x q).trans (result_at m c p.ok y x q).symm

/-- The reference's frame: it declares no semaphore. -/
theorem frame_reference : quiescent_ReferenceIdeal := fun m ρ _ =>
  (θ_run _ _ _).mono (fun r k => ⟨fun c => (k c).2, sem_eq_zero_of_no_sems (by decide) r.2⟩)
    (Cert.ReferenceIdeal.Value.run (F := Ideal) m ρ)

/-- The exact image's frame, likewise. -/
theorem frame_exact : quiescent_ExactIdeal := fun m ρ _ =>
  (θ_run _ _ _).mono (fun r k => ⟨fun c => (k c).2.2, sem_eq_zero_of_no_sems (by decide) r.2⟩)
    (Cert.ExactIdeal.Value.run (F := Ideal) m ρ)

/-- Kernel and reference compute the same function. -/
theorem algebraic : algebraic_KernelIdeal_ReferenceIdeal_pre_in_range := by
  intro m g m' g' h e
  refine ⟨fun c => result (F := Ideal) m c, run m g, ?_⟩
  refine (θ_run _ _ _).mono (fun r k c => ⟨(k c).1.trans ?_, (k c).2⟩) (Cert.ReferenceIdeal.Value.run (F := Ideal) m' g')
  obtain ⟨e0, e1, e2, e3, e4⟩ := e c
  refine Eq.trans ?_ (result_eq (in_range_at h c))
  rw [← show _ = arg0 m c from e0, ← show _ = arg1 m c from e1, ← show _ = arg2 m c from e2, ← show _ = arg3 m c from e3,
    ← show _ = arg4 m c from e4]
  rfl

/-- The kernel's result is near to the exact image. -/
theorem holds : holds_KernelIdeal_within_pre_in_range := by
  intro m g h
  refine (θ_run _ _ _).mono (fun r k c => ?_) (run (F := Ideal) m g)
  obtain ⟨k0, k1, k2, k3, k4, k5⟩ := k c
  refine ⟨k1, k2, k3, k4, k5, ?_⟩
  have p := in_range_at h c
  rw [k0]
  exact within_of _ _ _ _ _ p.ok p.det_at _ (fun y x q => result_at m c p.ok y x q)

/-- All the claims, with the facts that they rest on. -/
theorem claim : Cert.Claim :=
  ⟨Cert.Kernel.Gen.facts, Cert.KernelIdeal.Gen.facts, Cert.ReferenceIdeal.Gen.facts, Cert.ExactIdeal.Gen.facts,
    Cert.Pre_in_range.Gen.facts, Cert.Post_within.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    frame_exact,
    IdealRules.named_const.statement Cert.KernelIdeal.κ "sqrt_half_log2e" .f32 0x3F596D27#32 _ rfl,
    algebraic, holds⟩

end Cert.Proof

end
